-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S64x16384x64 : Shape := ⟨3, ![64, 16384, 64]⟩
abbrev S64x512 : Shape := ⟨2, ![64, 512]⟩
abbrev S64x64 : Shape := ⟨2, ![64, 64]⟩
abbrev S64x1 : Shape := ⟨2, ![64, 1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel

variable [Facts]

def fn {F : FTy → Type} [FloatOps F] (main_arg0 : FVec F S64x16384x64 .f32) (main_arg1 : IVec S64x512 32) (main_arg2 : FVec F S64x64 .f32) (main_arg3 : FVec F S64x1 .f32) : IVec S_ 1 :=
  let main_c : IVec S_ 32 := constantI S_ 32 0#32
  let main_v0 : IVec S64x512 32 := broadcastInDim S64x512 ![] bcast_S_S64x512 main_c
  let main_v1 : IVec S64x512 1 := cmpi .sge main_arg1 main_v0
  let main_c_0 : IVec S_ 32 := constantI S_ 32 16384#32
  let main_v2 : IVec S64x512 32 := broadcastInDim S64x512 ![] bcast_S_S64x512 main_c_0
  let main_v3 : IVec S64x512 1 := cmpi .slt main_arg1 main_v2
  let main_v4 : IVec S64x512 1 := andi main_v1 main_v3
  let main_c_1 : IVec S_ 1 := constantI S_ 1 1#1
  let main_v5 : IVec S_ 1 := (fun x v => Host.reduce IntOp.andi x v reducesTo_S64x512_S_d0_1 h_S_) main_v4 main_c_1
  main_v5
-- ==== Kernel.lean ====
abbrev S64x16384x64 : Shape := ⟨3, ![64, 16384, 64]⟩
abbrev S64x512 : Shape := ⟨2, ![64, 512]⟩
abbrev S64x64 : Shape := ⟨2, ![64, 64]⟩
abbrev S64x1 : Shape := ⟨2, ![64, 1]⟩
abbrev S_ : Shape := ⟨0, ![]⟩
abbrev S16384 : Shape := ⟨1, ![16384]⟩
abbrev S64x16384 : Shape := ⟨2, ![64, 16384]⟩
abbrev S512 : Shape := ⟨1, ![512]⟩
abbrev S16 : Shape := ⟨1, ![16]⟩
abbrev S1x512 : Shape := ⟨2, ![1, 512]⟩
abbrev S1x16384 : Shape := ⟨2, ![1, 16384]⟩
abbrev S512x128x16 : Shape := ⟨3, ![512, 128, 16]⟩
abbrev S64x1x64 : Shape := ⟨3, ![64, 1, 64]⟩
abbrev S64x1x1 : Shape := ⟨3, ![64, 1, 1]⟩
abbrev S1x2048x64 : Shape := ⟨3, ![1, 2048, 64]⟩
abbrev S1x128x16 : Shape := ⟨3, ![1, 128, 16]⟩
abbrev S1x1x64 : Shape := ⟨3, ![1, 1, 64]⟩
abbrev S1x1x1 : Shape := ⟨3, ![1, 1, 1]⟩
abbrev S1x64 : Shape := ⟨2, ![1, 64]⟩
abbrev S1x1 : Shape := ⟨2, ![1, 1]⟩
abbrev S128x16 : Shape := ⟨2, ![128, 16]⟩
abbrev S128x1 : Shape := ⟨2, ![128, 1]⟩
abbrev S1x128x64 : Shape := ⟨3, ![1, 128, 64]⟩
abbrev S128x64 : Shape := ⟨2, ![128, 64]⟩

abbrev nBuf : Table → Nat
  | .hbm => 11
  | .local .tc .vmem => 10
  | .local .scVector .vmem => 2
  | _ => 0

abbrev bufTy : (tb : Table) → Fin (nBuf tb) → BufTy
  | .hbm, ⟨0, _⟩ => ⟨S64x16384x64, .f32⟩
  | .hbm, ⟨1, _⟩ => ⟨S64x512, .i32⟩
  | .hbm, ⟨2, _⟩ => ⟨S64x64, .f32⟩
  | .hbm, ⟨3, _⟩ => ⟨S64x1, .f32⟩
  | .hbm, ⟨4, _⟩ => ⟨S_, .f32⟩
  | .hbm, ⟨5, _⟩ => ⟨S16384, .f32⟩
  | .hbm, ⟨6, _⟩ => ⟨S64x16384, .f32⟩
  | .hbm, ⟨7, _⟩ => ⟨S512x128x16, .f32⟩
  | .hbm, ⟨8, _⟩ => ⟨S64x1x64, .f32⟩
  | .hbm, ⟨9, _⟩ => ⟨S64x1x1, .f32⟩
  | .hbm, ⟨10, _⟩ => ⟨S64x16384x64, .f32⟩
  | .local .tc .vmem, ⟨0, _⟩ => ⟨S1x2048x64, .f32⟩
  | .local .tc .vmem, ⟨1, _⟩ => ⟨S1x2048x64, .f32⟩
  | .local .tc .vmem, ⟨2, _⟩ => ⟨S1x128x16, .f32⟩
  | .local .tc .vmem, ⟨3, _⟩ => ⟨S1x128x16, .f32⟩
  | .local .tc .vmem, ⟨4, _⟩ => ⟨S1x1x64, .f32⟩
  | .local .tc .vmem, ⟨5, _⟩ => ⟨S1x1x64, .f32⟩
  | .local .tc .vmem, ⟨6, _⟩ => ⟨S1x1x1, .f32⟩
  | .local .tc .vmem, ⟨7, _⟩ => ⟨S1x1x1, .f32⟩
  | .local .tc .vmem, ⟨8, _⟩ => ⟨S1x2048x64, .f32⟩
  | .local .tc .vmem, ⟨9, _⟩ => ⟨S1x2048x64, .f32⟩
  | .local .scVector .vmem, ⟨0, _⟩ => ⟨S512, .i32⟩
  | .local .scVector .vmem, ⟨1, _⟩ => ⟨S16384, .f32⟩
  | _, _ => ⟨S64x16384x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg1_scv : Ref sig .scVector := ⟨.hbm, 1, rfl⟩
abbrev main_v0_scv : Ref sig .scVector := ⟨.hbm, 5, rfl⟩
abbrev main_v1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc0_scratch0 : Ref sig .scVector := ⟨.vmem, 0, rfl⟩
abbrev cc0_scratch1 : Ref sig .scVector := ⟨.vmem, 1, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c0_i32_413_r0 : BitVec 32 := 0#32
  ![v4.toNat, 0]

def k0_chk1 (v19 : IVec S16 32) : Prop :=
  (∀ a x, ((![v19] : Fin 1 → IVec S16 32) a x).toNat < S16384.size a)
theorem k0_idx1_inb : ∀ (v19 : IVec S16 32) (k0_hw1 : k0_chk1 v19), ∀ a x, ((![v19] : Fin 1 → IVec S16 32) a x).toNat < S16384.size a := fun v19 k0_hw1 => k0_hw1

def k0_chk2 (v34 : IVec S16 32) : Prop :=
  (∀ a x, ((![v34] : Fin 1 → IVec S16 32) a x).toNat < S16384.size a)
theorem k0_idx2_inb : ∀ (v34 : IVec S16 32) (k0_hw2 : k0_chk2 v34), ∀ a x, ((![v34] : Fin 1 → IVec S16 32) a x).toNat < S16384.size a := fun v34 k0_hw2 => k0_hw2

def k0_chk3 (v49 : IVec S16 32) : Prop :=
  (∀ a x, ((![v49] : Fin 1 → IVec S16 32) a x).toNat < S16384.size a)
theorem k0_idx3_inb : ∀ (v49 : IVec S16 32) (k0_hw3 : k0_chk3 v49), ∀ a x, ((![v49] : Fin 1 → IVec S16 32) a x).toNat < S16384.size a := fun v49 k0_hw3 => k0_hw3

def k0_chk4 (v64 : IVec S16 32) : Prop :=
  (∀ a x, ((![v64] : Fin 1 → IVec S16 32) a x).toNat < S16384.size a)
theorem k0_idx4_inb : ∀ (v64 : IVec S16 32) (k0_hw4 : k0_chk4 v64), ∀ a x, ((![v64] : Fin 1 → IVec S16 32) a x).toNat < S16384.size a := fun v64 k0_hw4 => k0_hw4

def k0_chk5 (v79 : IVec S16 32) : Prop :=
  (∀ a x, ((![v79] : Fin 1 → IVec S16 32) a x).toNat < S16384.size a)
theorem k0_idx5_inb : ∀ (v79 : IVec S16 32) (k0_hw5 : k0_chk5 v79), ∀ a x, ((![v79] : Fin 1 → IVec S16 32) a x).toNat < S16384.size a := fun v79 k0_hw5 => k0_hw5

def k0_chk6 (v94 : IVec S16 32) : Prop :=
  (∀ a x, ((![v94] : Fin 1 → IVec S16 32) a x).toNat < S16384.size a)
theorem k0_idx6_inb : ∀ (v94 : IVec S16 32) (k0_hw6 : k0_chk6 v94), ∀ a x, ((![v94] : Fin 1 → IVec S16 32) a x).toNat < S16384.size a := fun v94 k0_hw6 => k0_hw6

def k0_chk7 (v109 : IVec S16 32) : Prop :=
  (∀ a x, ((![v109] : Fin 1 → IVec S16 32) a x).toNat < S16384.size a)
theorem k0_idx7_inb : ∀ (v109 : IVec S16 32) (k0_hw7 : k0_chk7 v109), ∀ a x, ((![v109] : Fin 1 → IVec S16 32) a x).toNat < S16384.size a := fun v109 k0_hw7 => k0_hw7

def k0_chk8 (v124 : IVec S16 32) : Prop :=
  (∀ a x, ((![v124] : Fin 1 → IVec S16 32) a x).toNat < S16384.size a)
theorem k0_idx8_inb : ∀ (v124 : IVec S16 32) (k0_hw8 : k0_chk8 v124), ∀ a x, ((![v124] : Fin 1 → IVec S16 32) a x).toNat < S16384.size a := fun v124 k0_hw8 => k0_hw8

def k0_chk9 (v139 : IVec S16 32) : Prop :=
  (∀ a x, ((![v139] : Fin 1 → IVec S16 32) a x).toNat < S16384.size a)
theorem k0_idx9_inb : ∀ (v139 : IVec S16 32) (k0_hw9 : k0_chk9 v139), ∀ a x, ((![v139] : Fin 1 → IVec S16 32) a x).toNat < S16384.size a := fun v139 k0_hw9 => k0_hw9

def k0_chk10 (v154 : IVec S16 32) : Prop :=
  (∀ a x, ((![v154] : Fin 1 → IVec S16 32) a x).toNat < S16384.size a)
theorem k0_idx10_inb : ∀ (v154 : IVec S16 32) (k0_hw10 : k0_chk10 v154), ∀ a x, ((![v154] : Fin 1 → IVec S16 32) a x).toNat < S16384.size a := fun v154 k0_hw10 => k0_hw10

def k0_chk11 (v169 : IVec S16 32) : Prop :=
  (∀ a x, ((![v169] : Fin 1 → IVec S16 32) a x).toNat < S16384.size a)
theorem k0_idx11_inb : ∀ (v169 : IVec S16 32) (k0_hw11 : k0_chk11 v169), ∀ a x, ((![v169] : Fin 1 → IVec S16 32) a x).toNat < S16384.size a := fun v169 k0_hw11 => k0_hw11

def k0_chk12 (v184 : IVec S16 32) : Prop :=
  (∀ a x, ((![v184] : Fin 1 → IVec S16 32) a x).toNat < S16384.size a)
theorem k0_idx12_inb : ∀ (v184 : IVec S16 32) (k0_hw12 : k0_chk12 v184), ∀ a x, ((![v184] : Fin 1 → IVec S16 32) a x).toNat < S16384.size a := fun v184 k0_hw12 => k0_hw12

def k0_chk13 (v199 : IVec S16 32) : Prop :=
  (∀ a x, ((![v199] : Fin 1 → IVec S16 32) a x).toNat < S16384.size a)
theorem k0_idx13_inb : ∀ (v199 : IVec S16 32) (k0_hw13 : k0_chk13 v199), ∀ a x, ((![v199] : Fin 1 → IVec S16 32) a x).toNat < S16384.size a := fun v199 k0_hw13 => k0_hw13

def k0_chk14 (v214 : IVec S16 32) : Prop :=
  (∀ a x, ((![v214] : Fin 1 → IVec S16 32) a x).toNat < S16384.size a)
theorem k0_idx14_inb : ∀ (v214 : IVec S16 32) (k0_hw14 : k0_chk14 v214), ∀ a x, ((![v214] : Fin 1 → IVec S16 32) a x).toNat < S16384.size a := fun v214 k0_hw14 => k0_hw14

def k0_chk15 (v229 : IVec S16 32) : Prop :=
  (∀ a x, ((![v229] : Fin 1 → IVec S16 32) a x).toNat < S16384.size a)
theorem k0_idx15_inb : ∀ (v229 : IVec S16 32) (k0_hw15 : k0_chk15 v229), ∀ a x, ((![v229] : Fin 1 → IVec S16 32) a x).toNat < S16384.size a := fun v229 k0_hw15 => k0_hw15

def k0_chk16 (v244 : IVec S16 32) : Prop :=
  (∀ a x, ((![v244] : Fin 1 → IVec S16 32) a x).toNat < S16384.size a)
theorem k0_idx16_inb : ∀ (v244 : IVec S16 32) (k0_hw16 : k0_chk16 v244), ∀ a x, ((![v244] : Fin 1 → IVec S16 32) a x).toNat < S16384.size a := fun v244 k0_hw16 => k0_hw16

def k0_chk17 (v259 : IVec S16 32) : Prop :=
  (∀ a x, ((![v259] : Fin 1 → IVec S16 32) a x).toNat < S16384.size a)
theorem k0_idx17_inb : ∀ (v259 : IVec S16 32) (k0_hw17 : k0_chk17 v259), ∀ a x, ((![v259] : Fin 1 → IVec S16 32) a x).toNat < S16384.size a := fun v259 k0_hw17 => k0_hw17

def k0_chk18 (v274 : IVec S16 32) : Prop :=
  (∀ a x, ((![v274] : Fin 1 → IVec S16 32) a x).toNat < S16384.size a)
theorem k0_idx18_inb : ∀ (v274 : IVec S16 32) (k0_hw18 : k0_chk18 v274), ∀ a x, ((![v274] : Fin 1 → IVec S16 32) a x).toNat < S16384.size a := fun v274 k0_hw18 => k0_hw18

def k0_chk19 (v289 : IVec S16 32) : Prop :=
  (∀ a x, ((![v289] : Fin 1 → IVec S16 32) a x).toNat < S16384.size a)
theorem k0_idx19_inb : ∀ (v289 : IVec S16 32) (k0_hw19 : k0_chk19 v289), ∀ a x, ((![v289] : Fin 1 → IVec S16 32) a x).toNat < S16384.size a := fun v289 k0_hw19 => k0_hw19

def k0_chk20 (v304 : IVec S16 32) : Prop :=
  (∀ a x, ((![v304] : Fin 1 → IVec S16 32) a x).toNat < S16384.size a)
theorem k0_idx20_inb : ∀ (v304 : IVec S16 32) (k0_hw20 : k0_chk20 v304), ∀ a x, ((![v304] : Fin 1 → IVec S16 32) a x).toNat < S16384.size a := fun v304 k0_hw20 => k0_hw20

def k0_chk21 (v319 : IVec S16 32) : Prop :=
  (∀ a x, ((![v319] : Fin 1 → IVec S16 32) a x).toNat < S16384.size a)
theorem k0_idx21_inb : ∀ (v319 : IVec S16 32) (k0_hw21 : k0_chk21 v319), ∀ a x, ((![v319] : Fin 1 → IVec S16 32) a x).toNat < S16384.size a := fun v319 k0_hw21 => k0_hw21

def k0_chk22 (v334 : IVec S16 32) : Prop :=
  (∀ a x, ((![v334] : Fin 1 → IVec S16 32) a x).toNat < S16384.size a)
theorem k0_idx22_inb : ∀ (v334 : IVec S16 32) (k0_hw22 : k0_chk22 v334), ∀ a x, ((![v334] : Fin 1 → IVec S16 32) a x).toNat < S16384.size a := fun v334 k0_hw22 => k0_hw22

def k0_chk23 (v349 : IVec S16 32) : Prop :=
  (∀ a x, ((![v349] : Fin 1 → IVec S16 32) a x).toNat < S16384.size a)
theorem k0_idx23_inb : ∀ (v349 : IVec S16 32) (k0_hw23 : k0_chk23 v349), ∀ a x, ((![v349] : Fin 1 → IVec S16 32) a x).toNat < S16384.size a := fun v349 k0_hw23 => k0_hw23

def k0_chk24 (v364 : IVec S16 32) : Prop :=
  (∀ a x, ((![v364] : Fin 1 → IVec S16 32) a x).toNat < S16384.size a)
theorem k0_idx24_inb : ∀ (v364 : IVec S16 32) (k0_hw24 : k0_chk24 v364), ∀ a x, ((![v364] : Fin 1 → IVec S16 32) a x).toNat < S16384.size a := fun v364 k0_hw24 => k0_hw24

def k0_chk25 (v379 : IVec S16 32) : Prop :=
  (∀ a x, ((![v379] : Fin 1 → IVec S16 32) a x).toNat < S16384.size a)
theorem k0_idx25_inb : ∀ (v379 : IVec S16 32) (k0_hw25 : k0_chk25 v379), ∀ a x, ((![v379] : Fin 1 → IVec S16 32) a x).toNat < S16384.size a := fun v379 k0_hw25 => k0_hw25

def k0_chk26 (v394 : IVec S16 32) : Prop :=
  (∀ a x, ((![v394] : Fin 1 → IVec S16 32) a x).toNat < S16384.size a)
theorem k0_idx26_inb : ∀ (v394 : IVec S16 32) (k0_hw26 : k0_chk26 v394), ∀ a x, ((![v394] : Fin 1 → IVec S16 32) a x).toNat < S16384.size a := fun v394 k0_hw26 => k0_hw26

def k0_chk27 (v409 : IVec S16 32) : Prop :=
  (∀ a x, ((![v409] : Fin 1 → IVec S16 32) a x).toNat < S16384.size a)
theorem k0_idx27_inb : ∀ (v409 : IVec S16 32) (k0_hw27 : k0_chk27 v409), ∀ a x, ((![v409] : Fin 1 → IVec S16 32) a x).toNat < S16384.size a := fun v409 k0_hw27 => k0_hw27

def k0_chk28 (v424 : IVec S16 32) : Prop :=
  (∀ a x, ((![v424] : Fin 1 → IVec S16 32) a x).toNat < S16384.size a)
theorem k0_idx28_inb : ∀ (v424 : IVec S16 32) (k0_hw28 : k0_chk28 v424), ∀ a x, ((![v424] : Fin 1 → IVec S16 32) a x).toNat < S16384.size a := fun v424 k0_hw28 => k0_hw28

def k0_chk29 (v439 : IVec S16 32) : Prop :=
  (∀ a x, ((![v439] : Fin 1 → IVec S16 32) a x).toNat < S16384.size a)
theorem k0_idx29_inb : ∀ (v439 : IVec S16 32) (k0_hw29 : k0_chk29 v439), ∀ a x, ((![v439] : Fin 1 → IVec S16 32) a x).toNat < S16384.size a := fun v439 k0_hw29 => k0_hw29

def k0_chk30 (v454 : IVec S16 32) : Prop :=
  (∀ a x, ((![v454] : Fin 1 → IVec S16 32) a x).toNat < S16384.size a)
theorem k0_idx30_inb : ∀ (v454 : IVec S16 32) (k0_hw30 : k0_chk30 v454), ∀ a x, ((![v454] : Fin 1 → IVec S16 32) a x).toNat < S16384.size a := fun v454 k0_hw30 => k0_hw30

def k0_chk31 (v469 : IVec S16 32) : Prop :=
  (∀ a x, ((![v469] : Fin 1 → IVec S16 32) a x).toNat < S16384.size a)
theorem k0_idx31_inb : ∀ (v469 : IVec S16 32) (k0_hw31 : k0_chk31 v469), ∀ a x, ((![v469] : Fin 1 → IVec S16 32) a x).toNat < S16384.size a := fun v469 k0_hw31 => k0_hw31

def k0_chk32 (v484 : IVec S16 32) : Prop :=
  (∀ a x, ((![v484] : Fin 1 → IVec S16 32) a x).toNat < S16384.size a)
theorem k0_idx32_inb : ∀ (v484 : IVec S16 32) (k0_hw32 : k0_chk32 v484), ∀ a x, ((![v484] : Fin 1 → IVec S16 32) a x).toNat < S16384.size a := fun v484 k0_hw32 => k0_hw32
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v3 : BitVec 32 := Scalar.muli v1 c2_i32_0
  let c0_i32 : BitVec 32 := 0#32
  let v4 : BitVec 32 := Scalar.addi v3 c0_i32
  let c0_i32_413_r2 : BitVec 32 := 0#32
  ![v4.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_188 : BitVec 32 := 2#32
  let v485 : BitVec 32 := Scalar.muli v1 c2_i32_188
  let c1_i32 : BitVec 32 := 1#32
  let v486 : BitVec 32 := Scalar.addi v485 c1_i32
  let c0_i32_413_r3 : BitVec 32 := 0#32
  ![v486.toNat, 0]

def k0_chk33 (v501 : IVec S16 32) : Prop :=
  (∀ a x, ((![v501] : Fin 1 → IVec S16 32) a x).toNat < S16384.size a)
theorem k0_idx33_inb : ∀ (v501 : IVec S16 32) (k0_hw33 : k0_chk33 v501), ∀ a x, ((![v501] : Fin 1 → IVec S16 32) a x).toNat < S16384.size a := fun v501 k0_hw33 => k0_hw33

def k0_chk34 (v516 : IVec S16 32) : Prop :=
  (∀ a x, ((![v516] : Fin 1 → IVec S16 32) a x).toNat < S16384.size a)
theorem k0_idx34_inb : ∀ (v516 : IVec S16 32) (k0_hw34 : k0_chk34 v516), ∀ a x, ((![v516] : Fin 1 → IVec S16 32) a x).toNat < S16384.size a := fun v516 k0_hw34 => k0_hw34

def k0_chk35 (v531 : IVec S16 32) : Prop :=
  (∀ a x, ((![v531] : Fin 1 → IVec S16 32) a x).toNat < S16384.size a)
theorem k0_idx35_inb : ∀ (v531 : IVec S16 32) (k0_hw35 : k0_chk35 v531), ∀ a x, ((![v531] : Fin 1 → IVec S16 32) a x).toNat < S16384.size a := fun v531 k0_hw35 => k0_hw35

def k0_chk36 (v546 : IVec S16 32) : Prop :=
  (∀ a x, ((![v546] : Fin 1 → IVec S16 32) a x).toNat < S16384.size a)
theorem k0_idx36_inb : ∀ (v546 : IVec S16 32) (k0_hw36 : k0_chk36 v546), ∀ a x, ((![v546] : Fin 1 → IVec S16 32) a x).toNat < S16384.size a := fun v546 k0_hw36 => k0_hw36

def k0_chk37 (v561 : IVec S16 32) : Prop :=
  (∀ a x, ((![v561] : Fin 1 → IVec S16 32) a x).toNat < S16384.size a)
theorem k0_idx37_inb : ∀ (v561 : IVec S16 32) (k0_hw37 : k0_chk37 v561), ∀ a x, ((![v561] : Fin 1 → IVec S16 32) a x).toNat < S16384.size a := fun v561 k0_hw37 => k0_hw37

def k0_chk38 (v576 : IVec S16 32) : Prop :=
  (∀ a x, ((![v576] : Fin 1 → IVec S16 32) a x).toNat < S16384.size a)
theorem k0_idx38_inb : ∀ (v576 : IVec S16 32) (k0_hw38 : k0_chk38 v576), ∀ a x, ((![v576] : Fin 1 → IVec S16 32) a x).toNat < S16384.size a := fun v576 k0_hw38 => k0_hw38

def k0_chk39 (v591 : IVec S16 32) : Prop :=
  (∀ a x, ((![v591] : Fin 1 → IVec S16 32) a x).toNat < S16384.size a)
theorem k0_idx39_inb : ∀ (v591 : IVec S16 32) (k0_hw39 : k0_chk39 v591), ∀ a x, ((![v591] : Fin 1 → IVec S16 32) a x).toNat < S16384.size a := fun v591 k0_hw39 => k0_hw39

def k0_chk40 (v606 : IVec S16 32) : Prop :=
  (∀ a x, ((![v606] : Fin 1 → IVec S16 32) a x).toNat < S16384.size a)
theorem k0_idx40_inb : ∀ (v606 : IVec S16 32) (k0_hw40 : k0_chk40 v606), ∀ a x, ((![v606] : Fin 1 → IVec S16 32) a x).toNat < S16384.size a := fun v606 k0_hw40 => k0_hw40

def k0_chk41 (v621 : IVec S16 32) : Prop :=
  (∀ a x, ((![v621] : Fin 1 → IVec S16 32) a x).toNat < S16384.size a)
theorem k0_idx41_inb : ∀ (v621 : IVec S16 32) (k0_hw41 : k0_chk41 v621), ∀ a x, ((![v621] : Fin 1 → IVec S16 32) a x).toNat < S16384.size a := fun v621 k0_hw41 => k0_hw41

def k0_chk42 (v636 : IVec S16 32) : Prop :=
  (∀ a x, ((![v636] : Fin 1 → IVec S16 32) a x).toNat < S16384.size a)
theorem k0_idx42_inb : ∀ (v636 : IVec S16 32) (k0_hw42 : k0_chk42 v636), ∀ a x, ((![v636] : Fin 1 → IVec S16 32) a x).toNat < S16384.size a := fun v636 k0_hw42 => k0_hw42

def k0_chk43 (v651 : IVec S16 32) : Prop :=
  (∀ a x, ((![v651] : Fin 1 → IVec S16 32) a x).toNat < S16384.size a)
theorem k0_idx43_inb : ∀ (v651 : IVec S16 32) (k0_hw43 : k0_chk43 v651), ∀ a x, ((![v651] : Fin 1 → IVec S16 32) a x).toNat < S16384.size a := fun v651 k0_hw43 => k0_hw43

def k0_chk44 (v666 : IVec S16 32) : Prop :=
  (∀ a x, ((![v666] : Fin 1 → IVec S16 32) a x).toNat < S16384.size a)
theorem k0_idx44_inb : ∀ (v666 : IVec S16 32) (k0_hw44 : k0_chk44 v666), ∀ a x, ((![v666] : Fin 1 → IVec S16 32) a x).toNat < S16384.size a := fun v666 k0_hw44 => k0_hw44

def k0_chk45 (v681 : IVec S16 32) : Prop :=
  (∀ a x, ((![v681] : Fin 1 → IVec S16 32) a x).toNat < S16384.size a)
theorem k0_idx45_inb : ∀ (v681 : IVec S16 32) (k0_hw45 : k0_chk45 v681), ∀ a x, ((![v681] : Fin 1 → IVec S16 32) a x).toNat < S16384.size a := fun v681 k0_hw45 => k0_hw45

def k0_chk46 (v696 : IVec S16 32) : Prop :=
  (∀ a x, ((![v696] : Fin 1 → IVec S16 32) a x).toNat < S16384.size a)
theorem k0_idx46_inb : ∀ (v696 : IVec S16 32) (k0_hw46 : k0_chk46 v696), ∀ a x, ((![v696] : Fin 1 → IVec S16 32) a x).toNat < S16384.size a := fun v696 k0_hw46 => k0_hw46

def k0_chk47 (v711 : IVec S16 32) : Prop :=
  (∀ a x, ((![v711] : Fin 1 → IVec S16 32) a x).toNat < S16384.size a)
theorem k0_idx47_inb : ∀ (v711 : IVec S16 32) (k0_hw47 : k0_chk47 v711), ∀ a x, ((![v711] : Fin 1 → IVec S16 32) a x).toNat < S16384.size a := fun v711 k0_hw47 => k0_hw47

def k0_chk48 (v726 : IVec S16 32) : Prop :=
  (∀ a x, ((![v726] : Fin 1 → IVec S16 32) a x).toNat < S16384.size a)
theorem k0_idx48_inb : ∀ (v726 : IVec S16 32) (k0_hw48 : k0_chk48 v726), ∀ a x, ((![v726] : Fin 1 → IVec S16 32) a x).toNat < S16384.size a := fun v726 k0_hw48 => k0_hw48

def k0_chk49 (v741 : IVec S16 32) : Prop :=
  (∀ a x, ((![v741] : Fin 1 → IVec S16 32) a x).toNat < S16384.size a)
theorem k0_idx49_inb : ∀ (v741 : IVec S16 32) (k0_hw49 : k0_chk49 v741), ∀ a x, ((![v741] : Fin 1 → IVec S16 32) a x).toNat < S16384.size a := fun v741 k0_hw49 => k0_hw49

def k0_chk50 (v756 : IVec S16 32) : Prop :=
  (∀ a x, ((![v756] : Fin 1 → IVec S16 32) a x).toNat < S16384.size a)
theorem k0_idx50_inb : ∀ (v756 : IVec S16 32) (k0_hw50 : k0_chk50 v756), ∀ a x, ((![v756] : Fin 1 → IVec S16 32) a x).toNat < S16384.size a := fun v756 k0_hw50 => k0_hw50

def k0_chk51 (v771 : IVec S16 32) : Prop :=
  (∀ a x, ((![v771] : Fin 1 → IVec S16 32) a x).toNat < S16384.size a)
theorem k0_idx51_inb : ∀ (v771 : IVec S16 32) (k0_hw51 : k0_chk51 v771), ∀ a x, ((![v771] : Fin 1 → IVec S16 32) a x).toNat < S16384.size a := fun v771 k0_hw51 => k0_hw51

def k0_chk52 (v786 : IVec S16 32) : Prop :=
  (∀ a x, ((![v786] : Fin 1 → IVec S16 32) a x).toNat < S16384.size a)
theorem k0_idx52_inb : ∀ (v786 : IVec S16 32) (k0_hw52 : k0_chk52 v786), ∀ a x, ((![v786] : Fin 1 → IVec S16 32) a x).toNat < S16384.size a := fun v786 k0_hw52 => k0_hw52

def k0_chk53 (v801 : IVec S16 32) : Prop :=
  (∀ a x, ((![v801] : Fin 1 → IVec S16 32) a x).toNat < S16384.size a)
theorem k0_idx53_inb : ∀ (v801 : IVec S16 32) (k0_hw53 : k0_chk53 v801), ∀ a x, ((![v801] : Fin 1 → IVec S16 32) a x).toNat < S16384.size a := fun v801 k0_hw53 => k0_hw53

def k0_chk54 (v816 : IVec S16 32) : Prop :=
  (∀ a x, ((![v816] : Fin 1 → IVec S16 32) a x).toNat < S16384.size a)
theorem k0_idx54_inb : ∀ (v816 : IVec S16 32) (k0_hw54 : k0_chk54 v816), ∀ a x, ((![v816] : Fin 1 → IVec S16 32) a x).toNat < S16384.size a := fun v816 k0_hw54 => k0_hw54

def k0_chk55 (v831 : IVec S16 32) : Prop :=
  (∀ a x, ((![v831] : Fin 1 → IVec S16 32) a x).toNat < S16384.size a)
theorem k0_idx55_inb : ∀ (v831 : IVec S16 32) (k0_hw55 : k0_chk55 v831), ∀ a x, ((![v831] : Fin 1 → IVec S16 32) a x).toNat < S16384.size a := fun v831 k0_hw55 => k0_hw55

def k0_chk56 (v846 : IVec S16 32) : Prop :=
  (∀ a x, ((![v846] : Fin 1 → IVec S16 32) a x).toNat < S16384.size a)
theorem k0_idx56_inb : ∀ (v846 : IVec S16 32) (k0_hw56 : k0_chk56 v846), ∀ a x, ((![v846] : Fin 1 → IVec S16 32) a x).toNat < S16384.size a := fun v846 k0_hw56 => k0_hw56

def k0_chk57 (v861 : IVec S16 32) : Prop :=
  (∀ a x, ((![v861] : Fin 1 → IVec S16 32) a x).toNat < S16384.size a)
theorem k0_idx57_inb : ∀ (v861 : IVec S16 32) (k0_hw57 : k0_chk57 v861), ∀ a x, ((![v861] : Fin 1 → IVec S16 32) a x).toNat < S16384.size a := fun v861 k0_hw57 => k0_hw57

def k0_chk58 (v876 : IVec S16 32) : Prop :=
  (∀ a x, ((![v876] : Fin 1 → IVec S16 32) a x).toNat < S16384.size a)
theorem k0_idx58_inb : ∀ (v876 : IVec S16 32) (k0_hw58 : k0_chk58 v876), ∀ a x, ((![v876] : Fin 1 → IVec S16 32) a x).toNat < S16384.size a := fun v876 k0_hw58 => k0_hw58

def k0_chk59 (v891 : IVec S16 32) : Prop :=
  (∀ a x, ((![v891] : Fin 1 → IVec S16 32) a x).toNat < S16384.size a)
theorem k0_idx59_inb : ∀ (v891 : IVec S16 32) (k0_hw59 : k0_chk59 v891), ∀ a x, ((![v891] : Fin 1 → IVec S16 32) a x).toNat < S16384.size a := fun v891 k0_hw59 => k0_hw59

def k0_chk60 (v906 : IVec S16 32) : Prop :=
  (∀ a x, ((![v906] : Fin 1 → IVec S16 32) a x).toNat < S16384.size a)
theorem k0_idx60_inb : ∀ (v906 : IVec S16 32) (k0_hw60 : k0_chk60 v906), ∀ a x, ((![v906] : Fin 1 → IVec S16 32) a x).toNat < S16384.size a := fun v906 k0_hw60 => k0_hw60

def k0_chk61 (v921 : IVec S16 32) : Prop :=
  (∀ a x, ((![v921] : Fin 1 → IVec S16 32) a x).toNat < S16384.size a)
theorem k0_idx61_inb : ∀ (v921 : IVec S16 32) (k0_hw61 : k0_chk61 v921), ∀ a x, ((![v921] : Fin 1 → IVec S16 32) a x).toNat < S16384.size a := fun v921 k0_hw61 => k0_hw61

def k0_chk62 (v936 : IVec S16 32) : Prop :=
  (∀ a x, ((![v936] : Fin 1 → IVec S16 32) a x).toNat < S16384.size a)
theorem k0_idx62_inb : ∀ (v936 : IVec S16 32) (k0_hw62 : k0_chk62 v936), ∀ a x, ((![v936] : Fin 1 → IVec S16 32) a x).toNat < S16384.size a := fun v936 k0_hw62 => k0_hw62

def k0_chk63 (v951 : IVec S16 32) : Prop :=
  (∀ a x, ((![v951] : Fin 1 → IVec S16 32) a x).toNat < S16384.size a)
theorem k0_idx63_inb : ∀ (v951 : IVec S16 32) (k0_hw63 : k0_chk63 v951), ∀ a x, ((![v951] : Fin 1 → IVec S16 32) a x).toNat < S16384.size a := fun v951 k0_hw63 => k0_hw63

def k0_chk64 (v966 : IVec S16 32) : Prop :=
  (∀ a x, ((![v966] : Fin 1 → IVec S16 32) a x).toNat < S16384.size a)
theorem k0_idx64_inb : ∀ (v966 : IVec S16 32) (k0_hw64 : k0_chk64 v966), ∀ a x, ((![v966] : Fin 1 → IVec S16 32) a x).toNat < S16384.size a := fun v966 k0_hw64 => k0_hw64
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_188 : BitVec 32 := 2#32
  let v485 : BitVec 32 := Scalar.muli v1 c2_i32_188
  let c1_i32 : BitVec 32 := 1#32
  let v486 : BitVec 32 := Scalar.addi v485 c1_i32
  let c0_i32_413_r5 : BitVec 32 := 0#32
  ![v486.toNat, 0]
abbrev grid1 : Pipeline.Grid := ⟨2, ![64, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x16384x64 : Shape := ⟨3, ![64, 16384, 64]⟩
abbrev S64x512 : Shape := ⟨2, ![64, 512]⟩
abbrev S64x64 : Shape := ⟨2, ![64, 64]⟩
abbrev S64x1 : Shape := ⟨2, ![64, 1]⟩
abbrev S_ : Shape := ⟨0, ![]⟩
abbrev S64 : Shape := ⟨1, ![64]⟩
abbrev S64x1x64 : Shape := ⟨3, ![64, 1, 64]⟩
abbrev S64x512x64 : Shape := ⟨3, ![64, 512, 64]⟩
abbrev S64x512x1 : Shape := ⟨3, ![64, 512, 1]⟩
abbrev S64x512x2 : Shape := ⟨3, ![64, 512, 2]⟩

abbrev nBuf : Space → Nat
  | .hbm => 32
  | .vmem => 0
  | .smem => 0
  | _ => 0

abbrev bufTy : (tb : Table) → Fin (tcTables nBuf tb) → BufTy
  | .hbm, ⟨0, _⟩ => ⟨S64x16384x64, .f32⟩
  | .hbm, ⟨1, _⟩ => ⟨S64x512, .i32⟩
  | .hbm, ⟨2, _⟩ => ⟨S64x64, .f32⟩
  | .hbm, ⟨3, _⟩ => ⟨S64x1, .f32⟩
  | .hbm, ⟨4, _⟩ => ⟨S_, .f32⟩
  | .hbm, ⟨5, _⟩ => ⟨S64x16384x64, .f32⟩
  | .hbm, ⟨6, _⟩ => ⟨S64x16384x64, .f32⟩
  | .hbm, ⟨7, _⟩ => ⟨S64x64, .f32⟩
  | .hbm, ⟨8, _⟩ => ⟨S64x64, .f32⟩
  | .hbm, ⟨9, _⟩ => ⟨S64, .i32⟩
  | .hbm, ⟨10, _⟩ => ⟨S64x1, .i32⟩
  | .hbm, ⟨11, _⟩ => ⟨S64x1x64, .f32⟩
  | .hbm, ⟨12, _⟩ => ⟨S64x512x64, .f32⟩
  | .hbm, ⟨13, _⟩ => ⟨S_, .i32⟩
  | .hbm, ⟨14, _⟩ => ⟨S64x1, .i32⟩
  | .hbm, ⟨15, _⟩ => ⟨S64x1, .i1⟩
  | .hbm, ⟨16, _⟩ => ⟨S_, .i32⟩
  | .hbm, ⟨17, _⟩ => ⟨S64x1, .i32⟩
  | .hbm, ⟨18, _⟩ => ⟨S64x1, .i32⟩
  | .hbm, ⟨19, _⟩ => ⟨S64x1, .i32⟩
  | .hbm, ⟨20, _⟩ => ⟨S_, .i32⟩
  | .hbm, ⟨21, _⟩ => ⟨S64x512, .i32⟩
  | .hbm, ⟨22, _⟩ => ⟨S64x512, .i1⟩
  | .hbm, ⟨23, _⟩ => ⟨S_, .i32⟩
  | .hbm, ⟨24, _⟩ => ⟨S64x512, .i32⟩
  | .hbm, ⟨25, _⟩ => ⟨S64x512, .i32⟩
  | .hbm, ⟨26, _⟩ => ⟨S64x512, .i32⟩
  | .hbm, ⟨27, _⟩ => ⟨S64x512, .i32⟩
  | .hbm, ⟨28, _⟩ => ⟨S64x512x1, .i32⟩
  | .hbm, ⟨29, _⟩ => ⟨S64x512x1, .i32⟩
  | .hbm, ⟨30, _⟩ => ⟨S64x512x2, .i32⟩
  | .hbm, ⟨31, _⟩ => ⟨S64x16384x64, .f32⟩
  | _, _ => ⟨S64x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.IdealTile.lean ====
/- The histogram kernel of one SparseCore tile, written as two rounds of the same four pieces: a row of slot
   numbers is copied in, the counts are zeroed by a copy, thirty-two groups of sixteen numbers are counted, and
   the counts are copied out. The kernel as printed is this program.
   Here for the program read at the extended reals. -/
module

public import proofs.«01_k».proof.Defs
public import proofs.«01_k».proof.Proof.Gen.KernelIdeal
public import proofs.«01_k».proof.Proof.Gen.KernelIdeal.Skeleton

@[expose] public section

noncomputable section

namespace Cert.KernelIdeal.Hist

open Cert.KernelIdeal Cert.KernelIdeal.Gen
open Idealize.ShloMosaic Idealize.SL.Sem

variable {F : FTy → Type} [FloatOps F]

/-- Where a slot number's counter stands: chunk, lane within the row, row within the chunk. -/
def place (v : IVec S16 32) : IVec S16 32 :=
  ori (ori (shli (shrsi v (broadcast S16 11#32)) (broadcast S16 11#32)) (shli (andi v (broadcast S16 127#32)) (broadcast S16 4#32)))
    (andi (shrsi v (broadcast S16 7#32)) (broadcast S16 15#32))

/-- What each of the sixteen numbers adds to its counter. -/
def ones : FVec F S16 .f32 := broadcast S16 (Scalar.ofBits .f32 0x3F800000#32)

/-- The tile's programs. -/
abbrev TProg (F : FTy → Type) (i : grid0.Coords) : Type → Type _ :=
  Prog (TpuEff nD τ sig (Elt F) Λ₀ (.scVector ((i 0).castLE hcore0) ((i 1).castLE hsub0)))

theorem inb_group (n : ℕ) (h : n < 32) : ∀ a, (![16 * n] : Fin 1 → Nat) a + S16.size a ≤ S512.size a := by
  intro a; obtain rfl : a = 0 := Subsingleton.elim _ _
  show 16 * n + 16 ≤ 512; omega

/-- Group `n`: sixteen slot numbers loaded, their places computed and checked, one added at each place; then `k`. -/
def group (i : grid0.Coords) (sI : Memref sig .scVector .vmem S512 .i32) (sC : Memref sig .scVector .vmem S16384 .f32) (n : ℕ) (h : n < 32)
    (k : TProg F i PUnit) : TProg F i PUnit :=
  .op (.load sI (Rect.unit (s := S512) ![16 * n] S16.size (inb_group n h)).toLoadRect (View.loadsAt_vmem h_S16)) fun (v : Vec F S16 .i32) =>
  .op (TpuEff.assume (k0_chk1 (place v)) (k0_chk1.dec (place v))) fun hw =>
  SparseCore.vectorStoreIdx sC ![place v] ones (fun _ => 1#1) true (k0_idx1_inb (place v) hw.down) (View.stores_vmem_bits_univ h_S16384 rfl)
    >>= fun _ => k

/-- The last `k` groups in order. -/
def groups (i : grid0.Coords) (sI : Memref sig .scVector .vmem S512 .i32) (sC : Memref sig .scVector .vmem S16384 .f32) :
    (k : ℕ) → k ≤ 32 → TProg F i PUnit
  | 0, _ => pure ⟨⟩
  | k + 1, h => group i sI sC (31 - k) (by omega) (groups i sI sC k (Nat.le_of_succ_le h))

/-- One round: row in, counts zeroed, the counting `G`, counts out. -/
def round (i : grid0.Coords) (row : Memref sig .scVector .hbm S512 .i32) (hrow : row.view.WordExact) (zs : Memref sig .scVector .hbm S16384 .f32) (hzs : zs.IsWhole)
    (out : Memref sig .scVector .hbm S16384 .f32) (hout : out.view.WordExact) (sI : Memref sig .scVector .vmem S512 .i32) (hsI : sI.IsWhole)
    (sC : Memref sig .scVector .vmem S16384 .f32) (hsC : sC.IsWhole) (a b c : DmaSems sig S_) (G : TProg F i PUnit) : TProg F i PUnit :=
  .op (.enqueueDma row (.here sI) (.dma a.sem) hrow hsI.wordExact ⟨Or.inl rfl, trivial⟩) fun _ =>
  .op (.waitDma2 a.sem row sI hrow hsI.wordExact) fun _ =>
  .op (.enqueueDma zs (.here sC) (.dma b.sem) hzs.wordExact hsC.wordExact ⟨Or.inl rfl, trivial⟩) fun _ =>
  .op (.waitDma2 b.sem zs sC hzs.wordExact hsC.wordExact) fun _ =>
  G >>= fun _ =>
  .op (.enqueueDma sC (.here out) (.dma c.sem) hsC.wordExact hout ⟨Or.inl rfl, trivial⟩) fun _ =>
  .op (.waitDma2 c.sem sC out hsC.wordExact hout) fun _ => .ret ⟨⟩

/-- The row memrefs of the two rounds. -/
abbrev inRow₀ (i : grid0.Coords) (x : Memref sig .scVector .hbm S64x512 .i32) : Memref sig .scVector .hbm S512 .i32 :=
  (x.slice (Rect.unit (s := S64x512) (k0_off1 i) S1x512.size (k0_off1_inb i)) (fun _ => rfl)).squeeze S512 squeezes_S1x512_S512
abbrev inRow₁ (i : grid0.Coords) (x : Memref sig .scVector .hbm S64x512 .i32) : Memref sig .scVector .hbm S512 .i32 :=
  (x.slice (Rect.unit (s := S64x512) (k0_off3 i) S1x512.size (k0_off3_inb i)) (fun _ => rfl)).squeeze S512 squeezes_S1x512_S512
abbrev outRow₀ (i : grid0.Coords) (x : Memref sig .scVector .hbm S64x16384 .f32) : Memref sig .scVector .hbm S16384 .f32 :=
  (x.slice (Rect.unit (s := S64x16384) (k0_off2 i) S1x16384.size (k0_off2_inb i)) (fun _ => rfl)).squeeze S16384 squeezes_S1x16384_S16384
abbrev outRow₁ (i : grid0.Coords) (x : Memref sig .scVector .hbm S64x16384 .f32) : Memref sig .scVector .hbm S16384 .f32 :=
  (x.slice (Rect.unit (s := S64x16384) (k0_off4 i) S1x16384.size (k0_off4_inb i)) (fun _ => rfl)).squeeze S16384 squeezes_S1x16384_S16384

/-- The two rounds. -/
def rounds (i : grid0.Coords) (arg2 : Memref sig .scVector .hbm S64x512 .i32) (arg3 : Memref sig .scVector .hbm S16384 .f32) (harg3 : arg3.IsWhole)
    (arg4 : Memref sig .scVector .hbm S64x16384 .f32) (arg5 : Memref sig .scVector .vmem S512 .i32) (harg5 : arg5.IsWhole)
    (arg6 : Memref sig .scVector .vmem S16384 .f32) (harg6 : arg6.IsWhole) (s0 s1 s2 s3 s4 s5 : DmaSems sig S_) : TProg F i PUnit := do
  round i (inRow₀ i arg2) ((View.wordExact_bits rfl).reshape _ _) arg3 harg3 (outRow₀ i arg4) ((View.wordExact_bits rfl).reshape _ _) arg5 harg5 arg6 harg6 s0 s1 s2 (groups i arg5 arg6 32 (Nat.le_refl _))
  round i (inRow₁ i arg2) ((View.wordExact_bits rfl).reshape _ _) arg3 harg3 (outRow₁ i arg4) ((View.wordExact_bits rfl).reshape _ _) arg5 harg5 arg6 harg6 s3 s4 s5 (groups i arg5 arg6 32 (Nat.le_refl _))

set_option maxRecDepth 100000 in
set_option maxHeartbeats 0 in
theorem hist_eq_rounds (i : grid0.Coords) (arg2 : Memref sig .scVector .hbm S64x512 .i32) (harg2 : arg2.IsWhole) (arg3 : Memref sig .scVector .hbm S16384 .f32) (harg3 : arg3.IsWhole)
    (arg4 : Memref sig .scVector .hbm S64x16384 .f32) (harg4 : arg4.IsWhole) (arg5 : Memref sig .scVector .vmem S512 .i32) (harg5 : arg5.IsWhole)
    (arg6 : Memref sig .scVector .vmem S16384 .f32) (harg6 : arg6.IsWhole) (s0 s1 s2 s3 s4 s5 : DmaSems sig S_) :
    cc0_sc_hist (F := F) i arg2 harg2 arg3 harg3 arg4 harg4 arg5 harg5 arg6 harg6 s0 s1 s2 s3 s4 s5
      = rounds i arg2 arg3 harg3 arg4 arg5 harg5 arg6 harg6 s0 s1 s2 s3 s4 s5 := (rfl)

end Cert.KernelIdeal.Hist

end
-- ==== Proof.IdealCounts.lean ====
/- What the histogram tile leaves in its counts, and the tile's groups run: from the slot numbers held in the index
   scratch and the counts held at some contents, the thirty-two groups leave the counts at the contents with one more
   added at each number's place, group after group.
   Here for the program read at the extended reals. -/
module

public import proofs.«01_k».proof.Proof.IdealTile
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.KernelIdeal.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := UR sig nD τ
abbrev UU : Type := (UH × UP) × Counters

local notation "𝕄" => MT nD τ sig (HIx 1) (Elt F) ℕ UU ℕ

def EH : Emb UH (MT nD τ sig (HIx 1) (Elt F) ℕ UU ℕ) := (Emb.inl : Emb UH (UH × UP)).trans embL
def EP : Emb UP (MT nD τ sig (HIx 1) (Elt F) ℕ UU ℕ) := (Emb.inr : Emb UP (UH × UP)).trans embL

instance EH_landsIn : (EH : Emb UH 𝕄).LandsIn (upEmb : UEmb _ 𝕄) := by unfold EH embL; infer_instance
instance EP_landsIn : (EP : Emb UP 𝕄).LandsIn (upEmb : UEmb _ 𝕄) := by unfold EP embL; infer_instance

/-! ## The counts -/

variable [FloatOps F]

/-- Contents of the counts and of the slot numbers. -/
abbrev CBuf (F : FTy → Type) : Type := S16384.Idx → Elt F .f32
abbrev IBuf (F : FTy → Type) : Type := S512.Idx → Elt F .i32

/-- The sixteen slot numbers of group `n`. -/
def grp (x : IBuf F) (n : ℕ) (h : n < 32) : IVec S16 32 :=
  fun j => x ((Rect.unit (s := S512) ![16 * n] S16.size (inb_group n h)).toLoadRect.idx j)

open Classical in
/-- The counts after group `n`. -/
def bump (x : IBuf F) (n : ℕ) (h : n < 32) (g : CBuf F) : CBuf F :=
  if hw : k0_chk1 (place (grp (F := F) x n h)) then
    storeIdx (F := F) (s := S16384) (e := .f32) g ![place (grp (F := F) x n h)] ones (fun _ => 1#1) true (k0_idx1_inb (place (grp (F := F) x n h)) hw)
  else g

/-- The counts after the last `k` groups in order. -/
def bumps (x : IBuf F) : (k : ℕ) → k ≤ 32 → CBuf F → CBuf F
  | 0, _, g => g
  | k + 1, h, g => bumps x k (Nat.le_of_succ_le h) (bump x (31 - k) (by omega) g)

/-- Every place of the slot numbers is inside the counts. -/
def InRange (x : IBuf F) : Prop := ∀ (n : ℕ) (h : n < 32), k0_chk1 (place (grp (F := F) x n h))

/-! ## A group run -/

abbrev thr (d : Dev nD) (i : grid0.Coords) : Thread nD τ := V d ((i 0).castLE hcore0) ((i 1).castLE hsub0)
abbrev sI : Memref sig .scVector .vmem S512 .i32 := Memref.whole cc0_scratch0
abbrev sC : Memref sig .scVector .vmem S16384 .f32 := Memref.whole cc0_scratch1

omit [FloatOps F] in
theorem pts_sC_whole (d : Dev nD) (i : grid0.Coords) (g : CBuf F) :
    ((sC.access (.whole S16384)).loc (thr d i) ↦[(sC.access (.whole S16384)).set]{fullShare} g : sProp 𝕄)
      = (sC.view.loc (thr d i) ↦{fullShare} g) := by
  rw [show (sC.access (.whole S16384)).set = Finset.univ from Memref.set_access_whole (cc0_scratch1 : Ref sig .scVector)]

omit [FloatOps F] in
theorem read_sC (g : CBuf F) : (sC.access (.whole S16384)).read (Elt F) g = g := Memref.read_access_whole (Elt F) cc0_scratch1 g
omit [FloatOps F] in
theorem write_sC (g w : CBuf F) : (sC.access (.whole S16384)).write (Elt F) g w Finset.univ = w :=
  Memref.write_access_whole_univ (Elt F) cc0_scratch1 g w

omit [FloatOps F] in
theorem readAt_grp (x : IBuf F) (n : ℕ) (h : n < 32) :
    sI.view.readAt (Elt F) (Rect.unit (s := S512) ![16 * n] S16.size (inb_group n h)).toLoadRect x = grp (F := F) x n h := by
  funext j
  simp only [View.readAt_apply, Memref.view_whole, View.read_whole]
  rfl

theorem wp_group (d : Dev nD) (i : grid0.Coords) (n : ℕ) (h : n < 32) (x : IBuf F) (g : CBuf F) (hx : InRange (F := F) x)
    (k : TProg F i PUnit) (Q : PUnit → sProp 𝕄) :
    iprop((sI.view.loc (thr d i) ↦{fullShare} x) ∗ (sC.view.loc (thr d i) ↦{fullShare} g)
        ∗ (iprop((sI.view.loc (thr d i) ↦{fullShare} x) ∗ (sC.view.loc (thr d i) ↦{fullShare} bump (F := F) x n h g))
          -∗ wp frame (wpE (defs₀ (F := F)) 𝒱₀ (thr d i) none) Set.univ k Q))
      ⊢ wp frame (wpE (defs₀ (F := F)) 𝒱₀ (thr d i) none) Set.univ (group i sI sC n h k) Q := by
  unfold group bump
  have hg := readAt_grp (F := F) x n h
  rw [dif_pos (hx n h)]
  iintro ⟨HI, HC, Hk⟩
  sl_exec
  generalize hv : sI.view.readAt (Elt F) (Rect.unit (s := S512) ![16 * n] S16.size (inb_group n h)).toLoadRect x = v
  obtain rfl : grp (F := F) x n h = v := hg.symm.trans hv
  rw [wp_assume_of _ _ _ _ (hx n h)]
  ihave HC' := (Entails.of_eq (pts_sC_whole (F := F) d i g).symm) $$ HC
  iapply (SparseCore.wp_vectorStoreIdx 𝒱₀ (thr d i) none Set.univ (base := sC)) $$ [HC']
  · iexact HC'
  rw [pts_sC_whole, write_sC, read_sC]
  iintro HC
  iapply Hk
  isplitl [HI] <;> iassumption

theorem wp_groups (d : Dev nD) (i : grid0.Coords) (x : IBuf F) (hx : InRange (F := F) x) (Q : PUnit → sProp 𝕄) :
    ∀ (k : ℕ) (h : k ≤ 32) (g : CBuf F),
    iprop((sI.view.loc (thr d i) ↦{fullShare} x) ∗ (sC.view.loc (thr d i) ↦{fullShare} g)
        ∗ (iprop((sI.view.loc (thr d i) ↦{fullShare} x) ∗ (sC.view.loc (thr d i) ↦{fullShare} bumps (F := F) x k h g)) -∗ Q ⟨⟩))
      ⊢ wp frame (wpE (defs₀ (F := F)) 𝒱₀ (thr d i) none) Set.univ (groups i sI sC k h) Q
  | 0, _, g => by
    unfold groups bumps
    rw [wp_pure]
    iintro ⟨HI, HC, Hk⟩
    imodintro
    iapply Hk
    isplitl [HI]
    · iexact HI
    · iexact HC
  | k + 1, h, g => by
    unfold groups bumps
    iintro ⟨HI, HC, Hk⟩
    iapply (wp_group d i (31 - k) _ x g hx _ _)
    isplitl [HI]; · iexact HI
    isplitl [HC]; · iexact HC
    iintro ⟨HI, HC⟩
    iapply (wp_groups d i x hx Q k (Nat.le_of_succ_le h) _)
    isplitl [HI]; · iexact HI
    isplitl [HC]; · iexact HC
    iexact Hk

end Cert.KernelIdeal.Hist

end
-- ==== Proof.IdealRound.lean ====
/- One round of the histogram tile run: the row of slot numbers and the zeros copied in and waited for, the groups
   counted, the counts copied out and waited for.
   Here for the program read at the extended reals. -/
module

public import proofs.«01_k».proof.Proof.IdealCounts

@[expose] public section

noncomputable section

namespace Cert.KernelIdeal.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

omit [FloatOps F] in
theorem pts_sI_set (d : Dev nD) (i : grid0.Coords) (x : IBuf F) :
    (sI.view.loc (thr d i) ↦{fullShare} x : sProp 𝕄) = (sI.view.loc (thr d i) ↦[sI.view.set]{fullShare} x) := by
  simp only [Memref.view_whole, View.set_whole]
omit [FloatOps F] in
theorem pts_sC_set (d : Dev nD) (i : grid0.Coords) (g : CBuf F) :
    (sC.view.loc (thr d i) ↦{fullShare} g : sProp 𝕄) = (sC.view.loc (thr d i) ↦[sC.view.set]{fullShare} g) := by
  simp only [Memref.view_whole, View.set_whole]

omit [FloatOps F] in
theorem landed_sI (d : Dev nD) (i : grid0.Coords) (x w : IBuf F) :
    (sI.view.loc (thr d i) ↦[sI.view.set]{fullShare} sI.view.writes (Elt F) x [⟨Rect.whole S512, w⟩] : sProp 𝕄)
      = (sI.view.loc (thr d i) ↦{fullShare} w) := by
  rw [pts_sI_set, View.writes_singleton]
  exact congrArg _ (Memref.write_access_whole_univ (Elt F) cc0_scratch0 x w)
omit [FloatOps F] in
theorem landed_sC (d : Dev nD) (i : grid0.Coords) (g w : CBuf F) :
    (sC.view.loc (thr d i) ↦[sC.view.set]{fullShare} sC.view.writes (Elt F) g [⟨Rect.whole S16384, w⟩] : sProp 𝕄)
      = (sC.view.loc (thr d i) ↦{fullShare} w) := by
  rw [pts_sC_set, View.writes_singleton]
  exact congrArg _ (Memref.write_access_whole_univ (Elt F) cc0_scratch1 g w)

omit [FloatOps F] in
theorem landed_out (d : Dev nD) (i : grid0.Coords) (out : Memref sig .scVector .hbm S16384 .f32) (fo : Buf (Elt F) (out.view.loc (thr d i)))
    (w : S16384.Idx → Elt F .f32) :
    (out.view.loc (thr d i) ↦[out.view.set]{fullShare} out.view.writes (Elt F) fo [⟨Rect.whole S16384, w⟩] : sProp 𝕄)
      = (out.view.loc (thr d i) ↦[out.view.set]{fullShare} out.view.write (Elt F) fo w Finset.univ) := by
  refine pointsTo_congr fun j hj => ?_
  obtain ⟨y, -, rfl⟩ := Finset.mem_map.mp hj
  have hy : out.view.emb y = (out.view.slice (Rect.whole S16384)).emb y := by
    rw [View.emb_slice]; exact (congrArg out.view.emb (Rect.emb_whole_apply _ y)).symm
  rw [View.write_emb_of_mem _ _ (Finset.mem_univ _), View.writes_singleton, hy]
  exact View.write_emb_of_mem _ _ (Finset.mem_univ _)

theorem wp_round (d : Dev nD) (i : grid0.Coords) (row : Memref sig .scVector .hbm S512 .i32) (hrow : row.view.WordExact)
    (zs : Memref sig .scVector .hbm S16384 .f32) (hzs : zs.IsWhole) (out : Memref sig .scVector .hbm S16384 .f32) (hout : out.view.WordExact)
    (a b c : DmaSems sig S_) (qr qz : PosShare TreeShare) (fr : Buf (Elt F) (row.view.loc (thr d i))) (fz : Buf (Elt F) (zs.view.loc (thr d i)))
    (fo : Buf (Elt F) (out.view.loc (thr d i))) (x : IBuf F) (g : CBuf F) (O : CellTallies nD τ sig (HIx 1)) (W : Waits sig (HIx 1))
    (G : TProg F i PUnit) (upd : IBuf F → CBuf F → CBuf F)
    (hG : ∀ (g : CBuf F) (Q : PUnit → sProp 𝕄),
      iprop((sI.view.loc (thr d i) ↦{fullShare} row.view.read (Elt F) fr) ∗ (sC.view.loc (thr d i) ↦{fullShare} g)
          ∗ (iprop((sI.view.loc (thr d i) ↦{fullShare} row.view.read (Elt F) fr) ∗ (sC.view.loc (thr d i) ↦{fullShare} upd (row.view.read (Elt F) fr) g)) -∗ Q ⟨⟩))
        ⊢ wp frame (wpE (defs₀ (F := F)) 𝒱₀ (thr d i) none) Set.univ G Q) (Q : PUnit → sProp 𝕄) :
    iprop(Transfers.MayWaits (thr d i) (none : HIx 1) O ∗ (row.view.loc (thr d i) ↦[row.view.set]{qr} fr) ∗ (zs.view.loc (thr d i) ↦[zs.view.set]{qz} fz)
        ∗ (out.view.loc (thr d i) ↦[out.view.set]{fullShare} fo)
        ∗ (sI.view.loc (thr d i) ↦[sI.view.set]{fullShare} x) ∗ (sC.view.loc (thr d i) ↦[sC.view.set]{fullShare} g)
        ∗ semVal (thr d i, SemLoc.dma a.sem) 0 ∗ semVal (thr d i, SemLoc.dma b.sem) 0 ∗ semVal (thr d i, SemLoc.dma c.sem) 0
        ∗ owes (thr d i) O W
        ∗ (iprop((row.view.loc (thr d i) ↦[row.view.set]{qr} fr) ∗ (zs.view.loc (thr d i) ↦[zs.view.set]{qz} fz)
            ∗ (out.view.loc (thr d i) ↦[out.view.set]{fullShare} out.view.write (Elt F) fo
                (upd (row.view.read (Elt F) fr) (zs.view.read (Elt F) fz)) Finset.univ)
            ∗ (∃ x', sI.view.loc (thr d i) ↦[sI.view.set]{fullShare} x') ∗ (∃ g', sC.view.loc (thr d i) ↦[sC.view.set]{fullShare} g')
            ∗ semVal (thr d i, SemLoc.dma a.sem) 0 ∗ semVal (thr d i, SemLoc.dma b.sem) 0 ∗ semVal (thr d i, SemLoc.dma c.sem) 0
            ∗ ∃ W', ⌜∀ p ∈ W', p ∈ W ∨ p.2 = none⌝ ∗ owes (thr d i) O W') -∗ Q ⟨⟩))
      ⊢ wp frame (wpE (defs₀ (F := F)) 𝒱₀ (thr d i) none) Set.univ
          (round i row hrow zs hzs out hout sI (Memref.isWhole_whole _) sC (Memref.isWhole_whole _) a b c G) Q := by
  unfold round
  iintro ⟨Hmw, Hr, Hz, Ho, HI, HC, Ha, Hb, Hc, HO, Hk⟩
  sl_exec
  rw [wp_bind]
  ihave HI' := (Entails.of_eq (landed_sI d i x _)) $$ HI
  ihave HC' := (Entails.of_eq (landed_sC d i g _)) $$ HC
  iapply (hG _ _)
  isplitl [HI']; · iexact HI'
  isplitl [HC']; · iexact HC'
  iintro ⟨HI, HC⟩
  ihave HI' := (Entails.of_eq (pts_sI_set d i _)) $$ HI
  ihave HC' := (Entails.of_eq (pts_sC_set d i _)) $$ HC
  sl_exec
  sl_step
  ihave Ho' := (Entails.of_eq (landed_out d i out fo _)) $$ Ho
  iapply Hk
  isplitl [Hr]; · iexact Hr
  isplitl [Hz]; · iexact Hz
  isplitl [Ho']; · iexact Ho'
  isplitl [HI']; · iexists _; iexact HI'
  isplitl [HC']; · iexists _; iexact HC'
  isplitl [Ha]; · iexact Ha
  isplitl [Hb]; · iexact Hb
  isplitl [Hc]; · iexact Hc
  iexists _
  isplitr; swap; · iexact HO
  ipureintro
  intro p hp
  rcases Finset.mem_insert.mp hp with hp | hp
  · exact .inr (hp ▸ rfl)
  rcases Finset.mem_insert.mp hp with hp | hp
  · exact .inr (hp ▸ rfl)
  rcases Finset.mem_insert.mp hp with hp | hp
  · exact .inr (hp ▸ rfl)
  exact .inl hp

end Cert.KernelIdeal.Hist

end
-- ==== Proof.IdealBody.lean ====
/- One tile's run: its two batches, each a row of slot numbers in and a row of counts out.
   Here for the program read at the extended reals. -/
module

public import proofs.«01_k».proof.Proof.IdealRound
public import Idealize.ShloMosaic.Lib.ValueIdxCore

@[expose] public section

noncomputable section

namespace Cert.KernelIdeal.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ValueIdx (ix1 ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays' rows -/

abbrev iLoc (d : Dev nD) : Loc nD τ sig := (SparseCore.T d).loc main_arg1
abbrev zLoc (d : Dev nD) : Loc nD τ sig := (SparseCore.T d).loc main_v0
abbrev oLoc (d : Dev nD) : Loc nD τ sig := (SparseCore.T d).loc main_v1

abbrev iV : Memref sig .scVector .hbm S64x512 .i32 := Memref.whole main_arg1_scv
abbrev zV : Memref sig .scVector .hbm S16384 .f32 := Memref.whole main_v0_scv
abbrev oV : Memref sig .scVector .hbm S64x16384 .f32 := Memref.whole main_v1_scv

/-- The batch a tile counts in round `k`. -/
def batch (i : grid0.Coords) (k : ℕ) : ℕ := 4 * (i 1).val + 2 * (i 0).val + k

/-- Row `b` of the slot numbers, of the counts. -/
def iRows (b : ℕ) : Finset S64x512.Idx := Finset.univ.filter fun x => (x 0).val = b
def oRows (b : ℕ) : Finset S64x16384.Idx := Finset.univ.filter fun x => (x 0).val = b

theorem set_iRow (off : Fin 2 → ℕ) (inb : ∀ a, off a + S1x512.size a ≤ S64x512.size a) (b : ℕ) (h : off = ![b, 0]) :
    ((iV.slice (Rect.unit (s := S64x512) off S1x512.size inb) (fun _ => rfl)).squeeze S512 squeezes_S1x512_S512).view.set = iRows b := by
  show ((iV.view.slice (Rect.unit (s := S64x512) off S1x512.size inb)).reshape S512 squeezes_S1x512_S512.numel_eq).set = _
  rw [View.set_reshape]
  show ((View.whole (main_arg1_scv : Ref sig .scVector)).slice (Rect.unit (s := S64x512) off S1x512.size inb)).set = _
  rw [View.set_slice_whole]
  subst h
  ext x
  rw [Rect.mem_set_unit, iRows, Finset.mem_filter]
  have h1 : (x 1).val < 512 := (x 1).isLt
  constructor
  · intro h; have := h 0; simp at this; exact ⟨Finset.mem_univ _, by omega⟩
  · rintro ⟨-, h⟩ a
    match a with
    | 0 => simp; omega
    | 1 => simp; omega

theorem set_oRow (off : Fin 2 → ℕ) (inb : ∀ a, off a + S1x16384.size a ≤ S64x16384.size a) (b : ℕ) (h : off = ![b, 0]) :
    ((oV.slice (Rect.unit (s := S64x16384) off S1x16384.size inb) (fun _ => rfl)).squeeze S16384 squeezes_S1x16384_S16384).view.set = oRows b := by
  show ((oV.view.slice (Rect.unit (s := S64x16384) off S1x16384.size inb)).reshape S16384 squeezes_S1x16384_S16384.numel_eq).set = _
  rw [View.set_reshape]
  show ((View.whole (main_v1_scv : Ref sig .scVector)).slice (Rect.unit (s := S64x16384) off S1x16384.size inb)).set = _
  rw [View.set_slice_whole]
  subst h
  ext x
  rw [Rect.mem_set_unit, oRows, Finset.mem_filter]
  have h1 : (x 1).val < 16384 := (x 1).isLt
  constructor
  · intro h; have := h 0; simp at this; exact ⟨Finset.mem_univ _, by omega⟩
  · rintro ⟨-, h⟩ a
    match a with
    | 0 => simp; omega
    | 1 => simp; omega

theorem emb_iRow (off : Fin 2 → ℕ) (inb : ∀ a, off a + S1x512.size a ≤ S64x512.size a) (b : Fin 64) (h : off = ![b.val, 0]) (w : S512.Idx) :
    ((iV.slice (Rect.unit (s := S64x512) off S1x512.size inb) (fun _ => rfl)).squeeze S512 squeezes_S1x512_S512).view.emb w = ix2 b (w 0) := by
  show (Rect.unit (s := S64x512) off S1x512.size inb).emb (Shape.reshapeEquiv squeezes_S1x512_S512.numel_eq w) = _
  rw [show Shape.reshapeEquiv squeezes_S1x512_S512.numel_eq w = Fin.cons ⟨0, Nat.one_pos⟩ w from Shape.reshapeEquiv_cons_one _ w]
  subst h
  funext a
  match a with
  | 0 => exact Fin.ext (by rw [Rect.emb_apply]; show b.val + 1 * 0 = b.val; omega)
  | 1 => exact Fin.ext (by rw [Rect.emb_apply]; show 0 + 1 * (w 0).val = (w 0).val; omega)

theorem emb_oRow (off : Fin 2 → ℕ) (inb : ∀ a, off a + S1x16384.size a ≤ S64x16384.size a) (b : Fin 64) (h : off = ![b.val, 0]) (w : S16384.Idx) :
    ((oV.slice (Rect.unit (s := S64x16384) off S1x16384.size inb) (fun _ => rfl)).squeeze S16384 squeezes_S1x16384_S16384).view.emb w = ix2 b (w 0) := by
  show (Rect.unit (s := S64x16384) off S1x16384.size inb).emb (Shape.reshapeEquiv squeezes_S1x16384_S16384.numel_eq w) = _
  rw [show Shape.reshapeEquiv squeezes_S1x16384_S16384.numel_eq w = Fin.cons ⟨0, Nat.one_pos⟩ w from Shape.reshapeEquiv_cons_one _ w]
  subst h
  funext a
  match a with
  | 0 => exact Fin.ext (by rw [Rect.emb_apply]; show b.val + 1 * 0 = b.val; omega)
  | 1 => exact Fin.ext (by rw [Rect.emb_apply]; show 0 + 1 * (w 0).val = (w 0).val; omega)

variable [FloatOps F]

/-- Row `b` of the slot numbers. -/
def slots (X : S64x512.Idx → Elt F .i32) (b : Fin 64) : IBuf F := fun w => X (ix2 b (w 0))

/-- The counts of every batch, from the counters' first contents. -/
def histo (X : S64x512.Idx → Elt F .i32) (Z : CBuf F) : S64x16384.Idx → Elt F .f32 :=
  fun y => bumps (slots (F := F) X (y 0)) 32 (Nat.le_refl _) Z (ix1 (y 1))

/-- Every place a batch's slot numbers name is inside the counts. -/
def AllInRange (X : S64x512.Idx → Elt F .i32) : Prop := ∀ b, InRange (F := F) (slots (F := F) X b)

abbrev rowI (off : Fin 2 → ℕ) (inb : ∀ a, off a + S1x512.size a ≤ S64x512.size a) : Memref sig .scVector .hbm S512 .i32 :=
  (iV.slice (Rect.unit (s := S64x512) off S1x512.size inb) (fun _ => rfl)).squeeze S512 squeezes_S1x512_S512
abbrev rowO (off : Fin 2 → ℕ) (inb : ∀ a, off a + S1x16384.size a ≤ S64x16384.size a) : Memref sig .scVector .hbm S16384 .f32 :=
  (oV.slice (Rect.unit (s := S64x16384) off S1x16384.size inb) (fun _ => rfl)).squeeze S16384 squeezes_S1x16384_S16384

omit [FloatOps F] in
theorem pts_rowI (d : Dev nD) (i : grid0.Coords) (off : Fin 2 → ℕ) (inb : ∀ a, off a + S1x512.size a ≤ S64x512.size a) (b : ℕ) (h : off = ![b, 0])
    (f : S64x512.Idx → Elt F .i32) :
    ((rowI off inb).view.loc (thr d i) ↦[(rowI off inb).view.set]{fullShare} f : sProp 𝕄) = (iLoc d ↦[iRows b]{fullShare} f) := by
  rw [set_iRow off inb b h]
omit [FloatOps F] in
theorem pts_rowO (d : Dev nD) (i : grid0.Coords) (off : Fin 2 → ℕ) (inb : ∀ a, off a + S1x16384.size a ≤ S64x16384.size a) (b : ℕ) (h : off = ![b, 0])
    (f : S64x16384.Idx → Elt F .f32) :
    ((rowO off inb).view.loc (thr d i) ↦[(rowO off inb).view.set]{fullShare} f : sProp 𝕄) = (oLoc d ↦[oRows b]{fullShare} f) := by
  rw [set_oRow off inb b h]
omit [FloatOps F] in
theorem pts_zV (d : Dev nD) (i : grid0.Coords) (q : PosShare TreeShare) (f : CBuf F) :
    (zV.view.loc (thr d i) ↦[zV.view.set]{q} f : sProp 𝕄) = (zLoc d ↦{q} f) := by
  simp only [Memref.view_whole, View.set_whole]

omit [FloatOps F] in
theorem read_rowI (off : Fin 2 → ℕ) (inb : ∀ a, off a + S1x512.size a ≤ S64x512.size a) (b : Fin 64) (h : off = ![b.val, 0])
    (f : S64x512.Idx → Elt F .i32) : (rowI off inb).view.read (Elt F) f = slots (F := F) f b :=
  funext fun w => congrArg f (emb_iRow off inb b h w)

/-- A row of counts written is the row of all the batches' counts. -/
theorem landed_rowO (d : Dev nD) (off : Fin 2 → ℕ) (inb : ∀ a, off a + S1x16384.size a ≤ S64x16384.size a) (b : Fin 64) (h : off = ![b.val, 0])
    (f : S64x16384.Idx → Elt F .f32) (X : S64x512.Idx → Elt F .i32) (Z : CBuf F) :
    (oLoc d ↦[oRows b.val]{fullShare} (rowO off inb).view.write (Elt F) f (bumps (slots (F := F) X b) 32 (Nat.le_refl _) Z) Finset.univ : sProp 𝕄)
      = (oLoc d ↦[oRows b.val]{fullShare} histo (F := F) X Z) := by
  refine pointsTo_congr fun y hy => ?_
  have hy' : (y 0).val = b.val := (Finset.mem_filter.mp hy).2
  have e : (rowO off inb).view.emb (ix1 (y 1)) = y := by
    rw [emb_oRow off inb b h]
    funext a
    match a with
    | 0 => exact Fin.ext hy'.symm
    | 1 => rfl
  have hw := View.write_emb_of_mem (Val := Elt F) (v := (rowO off inb).view) f (bumps (slots (F := F) X b) 32 (Nat.le_refl _) Z) (Finset.mem_univ (ix1 (y 1)))
  refine ((congrArg (fun z => (rowO off inb).view.write (Elt F) f (bumps (slots (F := F) X b) 32 (Nat.le_refl _) Z) Finset.univ z) e).symm.trans hw).trans ?_
  show bumps (slots (F := F) X b) 32 (Nat.le_refl _) Z (ix1 (y 1)) = bumps (slots (F := F) X (y 0)) 32 (Nat.le_refl _) Z (ix1 (y 1))
  rw [show (y 0 : Fin 64) = b from Fin.ext hy']

/-- One batch: its row of slot numbers and the zeros in, its row of counts out. -/
theorem wp_batch (d : Dev nD) (i : grid0.Coords) (off off' : Fin 2 → ℕ) (inb : ∀ a, off a + S1x512.size a ≤ S64x512.size a)
    (inb' : ∀ a, off' a + S1x16384.size a ≤ S64x16384.size a) (b : Fin 64) (h : off = ![b.val, 0]) (h' : off' = ![b.val, 0])
    (hrow : (rowI off inb).view.WordExact) (hzs : zV.IsWhole) (hout : (rowO off' inb').view.WordExact)
    (s0 s1 s2 : DmaSems sig S_) (q : PosShare TreeShare) (X : S64x512.Idx → Elt F .i32) (hX : AllInRange (F := F) X) (Z : CBuf F)
    (f : S64x16384.Idx → Elt F .f32) (x : IBuf F) (g : CBuf F) (O : CellTallies nD τ sig (HIx 1)) (W : Waits sig (HIx 1)) (Q : PUnit → sProp 𝕄) :
    iprop(Transfers.MayWaits (thr d i) (none : HIx 1) O ∗ (iLoc d ↦[iRows b.val]{fullShare} X) ∗ (zLoc d ↦{q} Z) ∗ (oLoc d ↦[oRows b.val]{fullShare} f)
        ∗ (sI.view.loc (thr d i) ↦[sI.view.set]{fullShare} x) ∗ (sC.view.loc (thr d i) ↦[sC.view.set]{fullShare} g)
        ∗ semVal (thr d i, SemLoc.dma s0.sem) 0 ∗ semVal (thr d i, SemLoc.dma s1.sem) 0 ∗ semVal (thr d i, SemLoc.dma s2.sem) 0
        ∗ owes (thr d i) O W
        ∗ (iprop((iLoc d ↦[iRows b.val]{fullShare} X) ∗ (zLoc d ↦{q} Z) ∗ (oLoc d ↦[oRows b.val]{fullShare} histo (F := F) X Z)
            ∗ (∃ x', sI.view.loc (thr d i) ↦[sI.view.set]{fullShare} x') ∗ (∃ g', sC.view.loc (thr d i) ↦[sC.view.set]{fullShare} g')
            ∗ semVal (thr d i, SemLoc.dma s0.sem) 0 ∗ semVal (thr d i, SemLoc.dma s1.sem) 0 ∗ semVal (thr d i, SemLoc.dma s2.sem) 0
            ∗ ∃ W', ⌜∀ p ∈ W', p ∈ W ∨ p.2 = none⌝ ∗ owes (thr d i) O W') -∗ Q ⟨⟩))
      ⊢ wp frame (wpE (defs₀ (F := F)) 𝒱₀ (thr d i) none) Set.univ
          (round i (rowI off inb) hrow zV hzs (rowO off' inb') hout sI (Memref.isWhole_whole _) sC (Memref.isWhole_whole _) s0 s1 s2
            (groups i sI sC 32 (Nat.le_refl _))) Q := by
  refine BI.Entails.trans ?_ (wp_round d i (rowI off inb) hrow zV hzs (rowO off' inb') hout s0 s1 s2 fullShare q X Z f x g O W
    (groups i sI sC 32 (Nat.le_refl _)) (fun x g => bumps x 32 (Nat.le_refl _) g)
    (fun g Q => wp_groups d i _ (by rw [read_rowI off inb b h]; exact hX b) Q 32 (Nat.le_refl _) g) Q)
  rw [read_rowI off inb b h, show zV.view.read (Elt F) Z = Z from rfl, pts_rowI d i off inb b.val h, pts_rowO d i off' inb' b.val h', pts_zV,
    pts_rowO d i off' inb' b.val h', landed_rowO d off' inb' b h']
  exact Entails.of_eq (rfl : _ = (_ : sProp 𝕄))

/-! ## The tile -/

abbrev tcell (d : Dev nD) (i : grid0.Coords) (s : DmaSems sig S_) : GSem nD τ sig := (thr d i, .dma s.sem)

omit [FloatOps F] in
theorem ownSems0_V (d : Dev nD) (i : grid0.Coords) :
    (ownSems0 (thr d i) : sProp 𝕄)
      = iprop(semVal (tcell d i cc0_scoped0) 0 ∗ semVal (tcell d i cc0_scoped1) 0 ∗ semVal (tcell d i cc0_scoped2) 0
          ∗ semVal (tcell d i cc0_scoped3) 0 ∗ semVal (tcell d i cc0_scoped4) 0 ∗ semVal (tcell d i cc0_scoped5) 0
          ∗ bigSep (((((((ownCells (thr d i)).erase (tcell d i cc0_scoped0)).erase (tcell d i cc0_scoped1)).erase (tcell d i cc0_scoped2)).erase
              (tcell d i cc0_scoped3)).erase (tcell d i cc0_scoped4)).erase (tcell d i cc0_scoped5)) fun g => semVal g 0) := by
  unfold SparseCore.Cfg.ownSems0
  have hm : ∀ s : DmaSems sig S_, (SemLoc.dma s.sem : SemLoc sig).isScoped .scVector = true → tcell d i s ∈ ownCells (thr d i) :=
    fun s hs => (mem_ownCells (g := tcell d i s)).mpr ⟨rfl, hs⟩
  have hne : ∀ s t : DmaSems sig S_, (SemLoc.dma s.sem : SemLoc sig) ≠ SemLoc.dma t.sem → tcell d i s ≠ tcell d i t :=
    fun s t h e => h (Prod.mk.inj e).2
  rw [SparseCore.bigSep_erase' (hm cc0_scoped0 (by decide)),
    SparseCore.bigSep_erase' (Finset.mem_erase.mpr ⟨hne cc0_scoped1 cc0_scoped0 (by decide), hm cc0_scoped1 (by decide)⟩),
    SparseCore.bigSep_erase' (Finset.mem_erase.mpr ⟨hne cc0_scoped2 cc0_scoped1 (by decide), Finset.mem_erase.mpr ⟨hne cc0_scoped2 cc0_scoped0 (by decide),
      hm cc0_scoped2 (by decide)⟩⟩),
    SparseCore.bigSep_erase' (Finset.mem_erase.mpr ⟨hne cc0_scoped3 cc0_scoped2 (by decide), Finset.mem_erase.mpr ⟨hne cc0_scoped3 cc0_scoped1 (by decide),
      Finset.mem_erase.mpr ⟨hne cc0_scoped3 cc0_scoped0 (by decide), hm cc0_scoped3 (by decide)⟩⟩⟩),
    SparseCore.bigSep_erase' (Finset.mem_erase.mpr ⟨hne cc0_scoped4 cc0_scoped3 (by decide), Finset.mem_erase.mpr ⟨hne cc0_scoped4 cc0_scoped2 (by decide),
      Finset.mem_erase.mpr ⟨hne cc0_scoped4 cc0_scoped1 (by decide), Finset.mem_erase.mpr ⟨hne cc0_scoped4 cc0_scoped0 (by decide), hm cc0_scoped4 (by decide)⟩⟩⟩⟩),
    SparseCore.bigSep_erase' (Finset.mem_erase.mpr ⟨hne cc0_scoped5 cc0_scoped4 (by decide), Finset.mem_erase.mpr ⟨hne cc0_scoped5 cc0_scoped3 (by decide),
      Finset.mem_erase.mpr ⟨hne cc0_scoped5 cc0_scoped2 (by decide), Finset.mem_erase.mpr ⟨hne cc0_scoped5 cc0_scoped1 (by decide),
        Finset.mem_erase.mpr ⟨hne cc0_scoped5 cc0_scoped0 (by decide), hm cc0_scoped5 (by decide)⟩⟩⟩⟩⟩)]

abbrev tproc (i : grid0.Coords) : Proc τ := Proc.scVector ((i 0).castLE hcore0) ((i 1).castLE hsub0)

omit [FloatOps F] in
theorem ownBufs_V (d : Dev nD) (i : grid0.Coords) :
    (ownBufs (thr d i) : sProp 𝕄)
      = iprop((∃ x, sI.view.loc (thr d i) ↦[sI.view.set]{fullShare} x) ∗ (∃ g, sC.view.loc (thr d i) ↦[sC.view.set]{fullShare} g)
          ∗ bigSep (((ownRefs (tproc i)).erase ((tproc i).devRef cc0_scratch0)).erase ((tproc i).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := tproc i) (b := (tproc i).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := tproc i) (b := (tproc i).devRef cc0_scratch1) rfl⟩)]
  exact congrArg₂ (fun A B => iprop((∃ x, A x) ∗ (∃ g, B g) ∗ _)) (funext fun x => pts_sI_set d i x) (funext fun g => pts_sC_set d i g)

/-- The batch as a row index. -/
def batchF (i : grid0.Coords) (k : Fin 2) : Fin 64 :=
  ⟨batch i k.val, by
    have h0 : (i 0).val < 2 := (i 0).isLt
    have h1 : (i 1).val < 16 := (i 1).isLt
    have h2 := k.isLt
    unfold batch; omega⟩

/-- What a tile takes and gives back: its two rows of slot numbers, a share of the zeros, its two rows of counts. -/
def tileHolds (d : Dev nD) (X : S64x512.Idx → Elt F .i32) (Z : CBuf F) (i : grid0.Coords) (q : PosShare TreeShare) (f : S64x16384.Idx → Elt F .f32) : sProp 𝕄 :=
  iprop((bigSep Finset.univ fun k : Fin 2 => iLoc d ↦[iRows (batchF i k).val]{fullShare} X) ∗ (zLoc d ↦{q} Z)
    ∗ bigSep Finset.univ fun k : Fin 2 => oLoc d ↦[oRows (batchF i k).val]{fullShare} f)

omit [FloatOps F] in
theorem bigSep_two (Φ : Fin 2 → sProp 𝕄) : (bigSep Finset.univ Φ) = iprop(Φ 0 ∗ Φ 1) := by
  rw [show (Finset.univ : Finset (Fin 2)) = {0, 1} by decide, SparseCore.bigSep_insert' (by decide), bigSep_singleton]

theorem tile_body (hF : (K (F := F)).Facts) (d : Dev nD) (i : grid0.Coords) (X : S64x512.Idx → Elt F .i32) (hX : AllInRange (F := F) X) (Z : CBuf F)
    (q : PosShare TreeShare) (f : S64x16384.Idx → Elt F .f32) (O : CellTallies nD τ sig (HIx 1)) (W : Waits sig (HIx 1)) (hO : ∀ g, O g none = 0) :
    iprop(levAts (K (F := F)).L (K (F := F)).lev ∗ emp ∗ tileHolds d X Z i q f ∗ scopedBufs (thr d i) ∗ scopedSems0 (thr d i) ∗ owes (thr d i) O W)
      ⊢ wp frame (wpE (defs₀ (F := F)) 𝒱₀ (thr d i) none) Set.univ
          (cc0_sc_hist i iV (Memref.isWhole_whole _) zV (Memref.isWhole_whole _) oV (Memref.isWhole_whole _) sI (Memref.isWhole_whole _) sC (Memref.isWhole_whole _)
            cc0_scoped0 cc0_scoped1 cc0_scoped2 cc0_scoped3 cc0_scoped4 cc0_scoped5)
          fun _ => iprop(tileHolds d X Z i q (histo (F := F) X Z) ∗ scopedBufs (thr d i) ∗ scopedSems0 (thr d i)
            ∗ ∃ W', ⌜∀ p ∈ W', p ∈ W ∨ p.2 = none⌝ ∗ owes (thr d i) O W') := by
  rw [hist_eq_rounds, (K (F := F)).scopedBufs_V hF d ((i 0).castLE hcore0) ((i 1).castLE hsub0),
    SparseCore.Cfg.scopedSems0_V (Val := Elt F) d ((i 0).castLE hcore0) ((i 1).castLE hsub0), ownSems0_V, ownBufs_V]
  unfold tileHolds rounds
  rw [bigSep_two, bigSep_two, bigSep_two, wp_bind]
  iintro ⟨#Hlv, -, ⟨⟨Hi0, Hi1⟩, Hz, ⟨Ho0, Ho1⟩⟩, ⟨⟨%x, HI⟩, ⟨%g, HC⟩, Hbufs⟩, ⟨Hs0, Hs1, Hs2, Hs3, Hs4, Hs5, Hsems⟩, HO⟩
  ihave #Hmw := ((K (F := F)).mayWaits_none (thr := thr d i) hO) $$ Hlv
  iapply (wp_batch d i (k0_off1 i) (k0_off2 i) (k0_off1_inb i) (k0_off2_inb i) (batchF i 0) (k0_off1_eq i) (k0_off2_eq i) _ _ _ cc0_scoped0 cc0_scoped1 cc0_scoped2
    q X hX Z f x g O W _)
  isplitr; · iexact Hmw
  isplitl [Hi0]; · iexact Hi0
  isplitl [Hz]; · iexact Hz
  isplitl [Ho0]; · iexact Ho0
  isplitl [HI]; · iexact HI
  isplitl [HC]; · iexact HC
  isplitl [Hs0]; · iexact Hs0
  isplitl [Hs1]; · iexact Hs1
  isplitl [Hs2]; · iexact Hs2
  isplitl [HO]; · iexact HO
  iintro ⟨Hi0, Hz, Ho0, ⟨%x', HI⟩, ⟨%g', HC⟩, Hs0, Hs1, Hs2, %W', %hW', HO⟩
  iapply (wp_batch d i (k0_off3 i) (k0_off4 i) (k0_off3_inb i) (k0_off4_inb i) (batchF i 1) (k0_off3_eq i) (k0_off4_eq i) _ _ _ cc0_scoped3 cc0_scoped4 cc0_scoped5
    q X hX Z f x' g' O W' _)
  isplitr; · iexact Hmw
  isplitl [Hi1]; · iexact Hi1
  isplitl [Hz]; · iexact Hz
  isplitl [Ho1]; · iexact Ho1
  isplitl [HI]; · iexact HI
  isplitl [HC]; · iexact HC
  isplitl [Hs3]; · iexact Hs3
  isplitl [Hs4]; · iexact Hs4
  isplitl [Hs5]; · iexact Hs5
  isplitl [HO]; · iexact HO
  iintro ⟨Hi1, Hz, Ho1, HI, HC, Hs3, Hs4, Hs5, %W'', %hW'', HO⟩
  isplitl [Hi0 Hi1 Hz Ho0 Ho1]
  · isplitl [Hi0 Hi1]
    · isplitl [Hi0] <;> iassumption
    isplitl [Hz]; · iexact Hz
    isplitl [Ho0] <;> iassumption
  isplitl [HI HC Hbufs]
  · isplitl [HI]; · iexact HI
    isplitl [HC]; · iexact HC
    iexact Hbufs
  isplitl [Hs0 Hs1 Hs2 Hs3 Hs4 Hs5 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists W''; isplitr
  · ipureintro
    intro p hp
    rcases hW'' p hp with h | h
    · exact hW' p h
    · exact .inr h
  · iexact HO

end Cert.KernelIdeal.Hist

end
-- ==== Proof.IdealDeal.lean ====
/- What the call hands the tiles: each its two rows of slot numbers, a share of the zeros and its two rows of counts; the
   arrays whole are these together.
   Here for the program read at the extended reals. -/
module

public import proofs.«01_k».proof.Proof.IdealBody

@[expose] public section

noncomputable section

namespace Cert.KernelIdeal.Hist

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

def coordsV (c : Fin (grid0.bound 0)) (s : Fin (grid0.bound 1)) : grid0.Coords :=
  fun | 0 => c | 1 => s | ⟨_ + 2, h⟩ => absurd h (Nat.not_lt.2 (Nat.le_add_left _ _))

/-! ## The arrays dealt out -/

/-- Elements held are the elements held class by class, for any sorting of them into classes. -/
theorem pointsTo_fibers {ℓ : Loc nD τ sig} {n : ℕ} (A : Finset (Idx ℓ)) (g : Idx ℓ → Fin n) (q : PosShare TreeShare) (f : Buf (Elt F) ℓ) :
    (ℓ ↦[A]{q} f : sProp 𝕄) = bigSep Finset.univ fun k : Fin n => ℓ ↦[A.filter fun x => g x = k]{q} f := by
  rw [← pointsTo_biUnion Finset.univ (ℓ := ℓ) (fun k : Fin n => A.filter fun x => g x = k) fun k _ k' _ hk =>
    Finset.disjoint_left.mpr fun x hx hx' => hk ((Finset.mem_filter.mp hx).2.symm.trans (Finset.mem_filter.mp hx').2)]
  congr 1
  ext x
  simp

/-- The share of the zeros a tile reads at. -/
def zShare (c : Fin (grid0.bound 0)) (s : Fin (grid0.bound 1)) : PosShare TreeShare :=
  Transfers.dealOf (Transfers.dealOf fullShare Finset.univ c) Finset.univ s

theorem zeros_dealt (d : Dev nD) (Z : CBuf F) :
    (zLoc d ↦{fullShare} Z : sProp 𝕄)
      = bigSep Finset.univ fun c : Fin (grid0.bound 0) => bigSep Finset.univ fun s : Fin (grid0.bound 1) => zLoc d ↦{zShare c s} Z := by
  rw [Transfers.pointsTo_deal (ℓ := zLoc d) (Finset.univ : Finset (Fin (grid0.bound 0))) ⟨⟨0, by decide⟩, Finset.mem_univ _⟩ fullShare]
  refine bigSep_congr fun c _ => ?_
  rw [Transfers.pointsTo_deal (ℓ := zLoc d) (Finset.univ : Finset (Fin (grid0.bound 1))) ⟨⟨0, by decide⟩, Finset.mem_univ _⟩]
  rfl

/-- A batch's SparseCore, tile and round. -/
def coreOf (b : ℕ) : Fin (grid0.bound 0) := ⟨b / 2 % 2, Nat.mod_lt _ (by decide)⟩
def tileOf (b : Fin 64) : Fin (grid0.bound 1) := ⟨b.val / 4, by have := b.isLt; show _ < 16; omega⟩
def roundOf (b : ℕ) : Fin 2 := ⟨b % 2, Nat.mod_lt _ (by decide)⟩

theorem batch_iff (b : Fin 64) (c : Fin (grid0.bound 0)) (s : Fin (grid0.bound 1)) (k : Fin 2) :
    ((coreOf b.val = c ∧ tileOf b = s) ∧ roundOf b.val = k) ↔ b.val = (batchF (coordsV c s) k).val := by
  have hc : c.val < 2 := c.isLt
  have hs : s.val < 16 := s.isLt
  have hk := k.isLt
  have e : (batchF (coordsV c s) k).val = 4 * s.val + 2 * c.val + k.val := rfl
  rw [e, Fin.ext_iff, Fin.ext_iff, Fin.ext_iff]
  show ((b.val / 2 % 2 = c.val ∧ b.val / 4 = s.val) ∧ b.val % 2 = k.val) ↔ _
  omega

theorem slots_dealt (d : Dev nD) (X : S64x512.Idx → Elt F .i32) :
    (iLoc d ↦{fullShare} X : sProp 𝕄)
      = bigSep Finset.univ fun c : Fin (grid0.bound 0) => bigSep Finset.univ fun s : Fin (grid0.bound 1) =>
          bigSep Finset.univ fun k : Fin 2 => iLoc d ↦[iRows (batchF (coordsV c s) k).val]{fullShare} X := by
  rw [pointsTo_fibers (ℓ := iLoc d) Finset.univ (fun x : S64x512.Idx => coreOf (x 0).val) fullShare X]
  refine bigSep_congr fun c _ => ?_
  rw [pointsTo_fibers (ℓ := iLoc d) _ (fun x : S64x512.Idx => tileOf (x 0)) fullShare X]
  refine bigSep_congr fun s _ => ?_
  rw [pointsTo_fibers (ℓ := iLoc d) _ (fun x : S64x512.Idx => roundOf (x 0).val) fullShare X]
  refine bigSep_congr fun k _ => ?_
  refine congrArg (fun A : Finset S64x512.Idx => (iLoc d ↦[A]{fullShare} X : sProp 𝕄)) ?_
  ext x
  simp only [Finset.mem_filter, Finset.mem_univ, true_and, iRows]
  exact batch_iff (x 0) c s k

theorem counts_dealt (d : Dev nD) (f : S64x16384.Idx → Elt F .f32) :
    (oLoc d ↦{fullShare} f : sProp 𝕄)
      = bigSep Finset.univ fun c : Fin (grid0.bound 0) => bigSep Finset.univ fun s : Fin (grid0.bound 1) =>
          bigSep Finset.univ fun k : Fin 2 => oLoc d ↦[oRows (batchF (coordsV c s) k).val]{fullShare} f := by
  rw [pointsTo_fibers (ℓ := oLoc d) Finset.univ (fun x : S64x16384.Idx => coreOf (x 0).val) fullShare f]
  refine bigSep_congr fun c _ => ?_
  rw [pointsTo_fibers (ℓ := oLoc d) _ (fun x : S64x16384.Idx => tileOf (x 0)) fullShare f]
  refine bigSep_congr fun s _ => ?_
  rw [pointsTo_fibers (ℓ := oLoc d) _ (fun x : S64x16384.Idx => roundOf (x 0).val) fullShare f]
  refine bigSep_congr fun k _ => ?_
  refine congrArg (fun A : Finset S64x16384.Idx => (oLoc d ↦[A]{fullShare} f : sProp 𝕄)) ?_
  ext x
  simp only [Finset.mem_filter, Finset.mem_univ, true_and, oRows]
  exact batch_iff (x 0) c s k

/-- The tiles' holdings together are the three arrays whole. -/
theorem all_dealt (d : Dev nD) (X : S64x512.Idx → Elt F .i32) (Z : CBuf F) (f : S64x16384.Idx → Elt F .f32) :
    (bigSep Finset.univ fun c : Fin (grid0.bound 0) => bigSep Finset.univ fun s : Fin (grid0.bound 1) => tileHolds (F := F) d X Z (coordsV c s) (zShare c s) f)
      = (iprop((iLoc d ↦{fullShare} X) ∗ (zLoc d ↦{fullShare} Z) ∗ (oLoc d ↦{fullShare} f)) : sProp 𝕄) := by
  rw [slots_dealt, zeros_dealt, counts_dealt]
  simp only [tileHolds, bigSep_sep']

/-! ## The call's payloads -/

variable [FloatOps F]

/-- The counters' first contents. -/
def zeros : CBuf F := fun _ => Scalar.ofBits .f32 0x00000000#32

variable (m : (ℓ : Loc nD τ sig) → Buf (Elt F) ℓ)

/-- The counts the call leaves. -/
def counts (d : Dev nD) : S64x16384.Idx → Elt F .f32 := histo (F := F) (m (iLoc d)) zeros

def P : (K (F := F)).Pay (nD := nD) (Val := Elt F) (Name := ℕ) (U := UU) where
  st := fun q d c => match q with
    | 0 => bigSep Finset.univ fun s : Fin (grid0.bound 1) => tileHolds d (m (iLoc d)) zeros (coordsV c s) (zShare c s) (m (oLoc d))
  dn := fun q d c => match q with
    | 0 => bigSep Finset.univ fun s : Fin (grid0.bound 1) => tileHolds d (m (iLoc d)) zeros (coordsV c s) (zShare c s) (counts m d)
  go := fun q d c s => match q with | 0 => tileHolds d (m (iLoc d)) zeros (coordsV c s) (zShare c s) (m (oLoc d))
  td := fun q d c s => match q with | 0 => tileHolds d (m (iLoc d)) zeros (coordsV c s) (zShare c s) (counts m d)
  x := fun _ _ => iprop(emp)

instance tileHolds_storable (d : Dev nD) (X : S64x512.Idx → Elt F .i32) (Z : CBuf F) (i : grid0.Coords) (q : PosShare TreeShare) (f : S64x16384.Idx → Elt F .f32) :
    BI.Storable (upEmb : UEmb _ 𝕄) (tileHolds d X Z i q f) := by
  unfold tileHolds; infer_instance

instance P_storable : (P (F := F) m).IsStorable where
  st q d c := match q with
    | 0 => (inferInstance : BI.Storable (upEmb : UEmb _ 𝕄)
        (bigSep Finset.univ fun s : Fin (grid0.bound 1) => tileHolds d (m (iLoc d)) zeros (coordsV c s) (zShare c s) (m (oLoc d))))
  dn q d c := match q with
    | 0 => (inferInstance : BI.Storable (upEmb : UEmb _ 𝕄)
        (bigSep Finset.univ fun s : Fin (grid0.bound 1) => tileHolds d (m (iLoc d)) zeros (coordsV c s) (zShare c s) (counts m d)))
  go q d c s := match q with
    | 0 => (inferInstance : BI.Storable (upEmb : UEmb _ 𝕄) (tileHolds d (m (iLoc d)) zeros (coordsV c s) (zShare c s) (m (oLoc d))))
  td q d c s := match q with
    | 0 => (inferInstance : BI.Storable (upEmb : UEmb _ 𝕄) (tileHolds d (m (iLoc d)) zeros (coordsV c s) (zShare c s) (counts m d)))

theorem st0_eq (d : Dev nD) : (bigSep Finset.univ fun c : Fin ((K (F := F)).nCore 0) => (P m).st 0 d c)
    = iprop((iLoc d ↦{fullShare} m (iLoc d)) ∗ (zLoc d ↦{fullShare} (zeros : CBuf F)) ∗ (oLoc d ↦{fullShare} m (oLoc d))) :=
  all_dealt d (m (iLoc d)) zeros (m (oLoc d))
theorem dn0_eq (d : Dev nD) : (bigSep Finset.univ fun c : Fin ((K (F := F)).nCore 0) => (P m).dn 0 d c)
    = iprop((iLoc d ↦{fullShare} m (iLoc d)) ∗ (zLoc d ↦{fullShare} (zeros : CBuf F)) ∗ (oLoc d ↦{fullShare} counts m d)) :=
  all_dealt d (m (iLoc d)) zeros (counts m d)

theorem vecSplit : (K (F := F)).VecSplit' (P m) 0 := by
  intro d c
  show (bigSep Finset.univ fun s : Fin ((K (F := F)).nSub 0) => (P m).go 0 d c s) ⊢ |={Set.univ}=> iprop(
    (bigSep Finset.univ fun s : Fin ((K (F := F)).nSub 0) => (P m).go 0 d c s)
      ∗ ((bigSep Finset.univ fun s : Fin ((K (F := F)).nSub 0) => (P m).td 0 d c s)
        -∗ (bigSep Finset.univ fun s : Fin ((K (F := F)).nSub 0) => (P m).td 0 d c s)))
  iintro H; imodintro
  isplitl [H]; · iexact H
  iintro H; iexact H

/-! ## The tiles' obligation -/

theorem defs₀_vector (c : Fin τ.nSC) (s : Fin τ.nSub) :
    defs₀ (F := F) (.scVector c s) 0 ()
      = SparseCore.onTile hcore0 hsub0 (fun c s => cc0_sc_hist (coordsV c s)
          iV (Memref.isWhole_whole _) zV (Memref.isWhole_whole _) oV (Memref.isWhole_whole _) sI (Memref.isWhole_whole _) sC (Memref.isWhole_whole _)
          cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 20000 in
theorem tileObl (hX : ∀ d, AllInRange (F := F) (m (iLoc d))) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  refine (?_ : _ ⊢ _).trans ((tile_body facts d (coordsV ⟨_, hc.1⟩ ⟨_, hc.2⟩) (m (iLoc d)) (hX d) zeros (zShare c i) (m (oLoc d)) O W hO).trans ?_)
  · exact Entails.of_eq (rfl : _ = (_ : sProp 𝕄))
  · refine wp_mono frame _ _ fun _ => ?_
    refine (obl_post (q := 0)).trans ?_
    exact Entails.of_eq (rfl : _ = (_ : sProp 𝕄))

end Cert.KernelIdeal.Hist

end
-- ==== Proof.IdealBlend.lean ====
/- The blending kernel of the TensorCore, written as three loads and sixteen steps, each blending 128 rows of the
   block: the block of the memory times a constant, and the count of each row times the content. The kernel as printed
   is this program, and a run of it leaves in the result's block the blend of the four operands' blocks.
   Here for the program read at the extended reals. -/
module

public import proofs.«01_k».proof.Proof.IdealCounts
public import Idealize.ShloMosaic.Lib.WritesUnit
public import Idealize.ShloMosaic.Lib.ValueIdxCore
public import Idealize.ShloMosaic.Lib.Pipeline.Value

@[expose] public section

noncomputable section

namespace Cert.KernelIdeal.Hist

open Cert.KernelIdeal Cert.KernelIdeal.Gen
open Idealize.ShloMosaic Idealize.ShloMosaic.ValueIdx Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The program -/

/-- The TensorCore kernel's programs. -/
abbrev BProg (F : FTy → Type) : Type → Type _ := Prog (TpuEff nD τ sig (Elt F) Λ₀ .tc)

theorem inb_rows (n : ℕ) (h : n < 16) : ∀ a, (![0, 128 * n, 0] : Fin 3 → Nat) a + S1x128x64.size a ≤ S1x2048x64.size a := by
  intro a
  match a with
  | ⟨0, _⟩ => show 0 + 1 ≤ 1; omega
  | ⟨1, _⟩ => show 128 * n + 128 ≤ 2048; omega
  | ⟨2, _⟩ => show 0 + 64 ≤ 64; omega

theorem slices_col (n : ℕ) (h : n < 16) : S128x16.Slices ![0, n] S128x1 :=
  ⟨rfl, fun a => match a with
    | ⟨0, _⟩ => by show 0 + 128 ≤ 128; omega
    | ⟨1, _⟩ => by show n + 1 ≤ 16; omega⟩

/-- The box of the rows of step `n`. -/
abbrev rowsBox (n : ℕ) (h : n < 16) : Rect S1x2048x64 := Rect.unit (s := S1x2048x64) ![0, 128 * n, 0] S1x128x64.size (inb_rows n h)

/-- Step `n`: its rows of the memory loaded and blended, its rows of the result written; then `k`. -/
def step (M0 M4 : Memref sig .tc .vmem S1x2048x64 .f32) (val : FVec F S1x64 .f32) (cnt : FVec F S128x16 .f32) (n : ℕ) (h : n < 16)
    (k : BProg F PUnit) : BProg F PUnit :=
  .op (.load M0 (rowsBox n h).toLoadRect (View.loadsAt_vmem h_S1x128x64)) fun (v : Vec F S1x128x64 .f32) =>
  .op (.load M4 (rowsBox n h).toLoadRect (View.loadsAt_vmem h_S1x128x64)) fun (_ : Vec F S1x128x64 .f32) =>
  .op (.store M4 (rowsBox n h) (k1_pay1 val (extractStridedSlice S128x1 ![0, n] cnt (slices_col n h)) v) Finset.univ
    (View.stores_vmem_bits_univ h_S1x128x64 rfl) (.inl rfl)) fun _ => k

/-- The last `k` steps in order. -/
def steps (M0 M4 : Memref sig .tc .vmem S1x2048x64 .f32) (val : FVec F S1x64 .f32) (cnt : FVec F S128x16 .f32) : (k : ℕ) → k ≤ 16 → BProg F PUnit
  | 0, _ => .ret ⟨⟩
  | k + 1, h => step M0 M4 val cnt (15 - k) (by omega) (steps M0 M4 val cnt k (Nat.le_of_succ_le h))

/-- The three loads, then the steps `G` takes from what they read. -/
def blendProg (M1 : Memref sig .tc .vmem S1x128x16 .f32) (M2 : Memref sig .tc .vmem S1x1x64 .f32) (M3 : Memref sig .tc .vmem S1x1x1 .f32)
    (G : FVec F S1x64 .f32 → FVec F S128x16 .f32 → BProg F PUnit) : BProg F PUnit :=
  .op (.load M2 (Rect.unit (s := S1x1x64) ![0, 0, 0] S1x1x64.size inb_S1x1x64_S1x1x64_0_0_0).toLoadRect (View.loadsAt_vmem h_S1x1x64)) fun (v0 : Vec F S1x1x64 .f32) =>
  .op (.load M3 (Rect.unit (s := S1x1x1) ![0, 0, 0] S1x1x1.size inb_S1x1x1_S1x1x1_0_0_0).toLoadRect (View.loadsAt_vmem h_S1x1x1)) fun (v2 : Vec F S1x1x1 .f32) =>
  .op (.load M1 (Rect.unit (s := S1x128x16) ![0, 0, 0] S1x128x16.size inb_S1x128x16_S1x128x16_0_0_0).toLoadRect (View.loadsAt_vmem h_S1x128x16)) fun (v6 : Vec F S1x128x16 .f32) =>
  G (k1_pay3 v0 v2) (k1_pay4 v6)

set_option maxRecDepth 100000 in
set_option maxHeartbeats 0 in
theorem body_eq_steps (i : grid1.Coords) (M0 : Memref sig .tc .vmem S1x2048x64 .f32) (h0 : M0.IsWhole) (M1 : Memref sig .tc .vmem S1x128x16 .f32) (h1 : M1.IsWhole)
    (M2 : Memref sig .tc .vmem S1x1x64 .f32) (h2 : M2.IsWhole) (M3 : Memref sig .tc .vmem S1x1x1 .f32) (h3 : M3.IsWhole)
    (M4 : Memref sig .tc .vmem S1x2048x64 .f32) (h4 : M4.IsWhole) :
    cc1__tc_body (F := F) i M0 h0 M1 h1 M2 h2 M3 h3 M4 h4 = blendProg M1 M2 M3 fun v c => steps M0 M4 v c 16 (Nat.le_refl _) := (rfl)

/-! ## What a step writes -/

/-- The blend of the four blocks: row `128 * u + r` takes the count in row `r`, column `u`. -/
def blend (X0 : S1x2048x64.Idx → Elt F .f32) (X1 : S1x128x16.Idx → Elt F .f32) (X2 : S1x1x64.Idx → Elt F .f32) (X3 : S1x1x1.Idx → Elt F .f32) :
    S1x2048x64.Idx → Elt F .f32 := fun y =>
  FloatOps.addf (FloatOps.mulf (X0 y) (Scalar.ofBits .f32 0x3F733333#32))
    (FloatOps.mulf (X1 (ix3 0 ⟨(y 1).val % 128, Nat.mod_lt _ (by decide)⟩ ⟨(y 1).val / 128, Nat.div_lt_of_lt_mul (y 1).isLt⟩))
      (FloatOps.mulf (X2 (ix3 0 0 ⟨(y 2).val, (y 2).isLt⟩)) (X3 (ix3 0 0 0))))

/-- The result's block after the first `n` steps: blended below row `128 * n`, as found from there on. -/
def blended (X0 : S1x2048x64.Idx → Elt F .f32) (X1 : S1x128x16.Idx → Elt F .f32) (X2 : S1x1x64.Idx → Elt F .f32) (X3 : S1x1x1.Idx → Elt F .f32)
    (Y : S1x2048x64.Idx → Elt F .f32) (n : ℕ) : S1x2048x64.Idx → Elt F .f32 := fun y =>
  if (y 1).val < 128 * n then blend X0 X1 X2 X3 y else Y y

/-- A leading axis of extent one does not move an element. -/
theorem unit_rowMajor {a b : ℕ} (r : Fin a) (u : Fin b) :
    ((⟨3, ![1, a, b]⟩ : Shape).rowMajor (ix3 (0 : Fin 1) r u)).val = ((⟨2, ![a, b]⟩ : Shape).rowMajor (ix2 r u)).val := by
  rw [Shape.rowMajor_val_three, Shape.rowMajor_val_two]
  show (0 * a + r.val) * b + u.val = r.val * b + u.val
  rw [Nat.zero_mul, Nat.zero_add]

theorem gate_spread (g : FVec F S1x1 .f32) (e : Fin 64) (h : S1x1.Broadcasts S1x64) : broadcastTo S1x64 g h (ix2 0 e) = g (ix2 0 0) := by
  unfold broadcastTo
  refine congrArg g (funext fun a => Fin.ext ?_)
  match a with
  | ⟨0, _⟩ => rfl
  | ⟨1, _⟩ => rfl

theorem val_apply (X2 : Vec F S1x1x64 .f32) (X3 : Vec F S1x1x1 .f32) (e : Fin 64) :
    k1_pay3 X2 X3 (ix2 0 e) = FloatOps.mulf (X2 (ix3 0 0 e)) (X3 (ix3 0 0 0)) := by
  unfold k1_pay3
  show FloatOps.mulf (shapeCast S1x64 X2 _ _) (broadcastTo S1x64 (shapeCast S1x1 X3 _) _ (ix2 0 e)) = _
  rw [gate_spread]
  rw [shapeCast_apply X2 _ _ (ix3 0 0 e) (unit_rowMajor _ _),
    shapeCast_apply X3 _ _ (ix3 0 0 0) (unit_rowMajor _ _)]

theorem cnt_apply (X1 : Vec F S1x128x16 .f32) (r : Fin 128) (u : Fin 16) : k1_pay4 X1 (ix2 r u) = X1 (ix3 0 r u) := by
  unfold k1_pay4
  exact shapeCast_apply X1 _ _ (ix3 0 r u) (unit_rowMajor _ _)

theorem col_spread (col : FVec F S128x1 .f32) (r : Fin 128) (e : Fin 64) (h : S128x1.Broadcasts S128x64) :
    broadcastTo S128x64 col h (ix2 r e) = col (ix2 r 0) := by
  unfold broadcastTo
  refine congrArg col (funext fun a => Fin.ext ?_)
  match a with
  | ⟨0, _⟩ => rfl
  | ⟨1, _⟩ => rfl

theorem val_spread (val : FVec F S1x64 .f32) (r : Fin 128) (e : Fin 64) (h : S1x64.Broadcasts S128x64) :
    broadcastTo S128x64 val h (ix2 r e) = val (ix2 0 e) := by
  unfold broadcastTo
  refine congrArg val (funext fun a => Fin.ext ?_)
  match a with
  | ⟨0, _⟩ => rfl
  | ⟨1, _⟩ => rfl

theorem pay_apply (val : FVec F S1x64 .f32) (col : FVec F S128x1 .f32) (v : Vec F S1x128x64 .f32) (r : Fin 128) (e : Fin 64) :
    k1_pay1 val col v (ix3 0 r e)
      = FloatOps.addf (FloatOps.mulf (v (ix3 0 r e)) (Scalar.ofBits .f32 0x3F733333#32)) (FloatOps.mulf (col (ix2 r 0)) (val (ix2 0 e))) := by
  unfold k1_pay1
  rw [shapeCast_apply _ _ (ix3 0 r e : S1x128x64.Idx) (ix2 r e : S128x64.Idx) (unit_rowMajor _ _).symm]
  show FloatOps.addf (FloatOps.mulf (shapeCast S128x64 v _ _) _) (FloatOps.mulf (broadcastTo S128x64 col _ (ix2 r e)) (broadcastTo S128x64 val _ (ix2 r e))) = _
  rw [shapeCast_apply v _ (ix2 r e : S128x64.Idx) (ix3 0 r e) (unit_rowMajor _ _), col_spread, val_spread]
  rfl

theorem col_apply (cnt : FVec F S128x16 .f32) (n : ℕ) (h : n < 16) (r : Fin 128) :
    extractStridedSlice S128x1 ![0, n] cnt (slices_col n h) (ix2 r 0) = cnt (ix2 r ⟨n, h⟩) := by
  unfold extractStridedSlice
  refine congrArg cnt (funext fun a => Fin.ext ?_)
  match a with
  | ⟨0, _⟩ => show 0 + r.val = r.val; omega
  | ⟨1, _⟩ => show n + 0 = n; omega

/-- Step `n`'s write turns the block after `n` steps into the block after `n + 1`. -/
theorem blended_step (M0 M4 : Memref sig .tc .vmem S1x2048x64 .f32) (X1 : Vec F S1x128x16 .f32) (X2 : Vec F S1x1x64 .f32) (X3 : Vec F S1x1x1 .f32)
    (Y : S1x2048x64.Idx → Elt F .f32) (n : ℕ) (h : n < 16) (f : M0.view.ty.Contents (Elt F)) (g : M4.view.ty.Contents (Elt F))
    (hg : M4.view.read (Elt F) g = blended (M0.view.read (Elt F) f) X1 X2 X3 Y n) :
    M4.view.read (Elt F) (M4.view.writes (Elt F) g [⟨rowsBox n h, k1_pay1 (k1_pay3 X2 X3) (extractStridedSlice S128x1 ![0, n] (k1_pay4 X1) (slices_col n h))
        (M0.view.readAt (Elt F) (rowsBox n h).toLoadRect f)⟩])
      = blended (M0.view.read (Elt F) f) X1 X2 X3 Y (n + 1) := by
  funext y
  have hy2 : (y 1).val < 2048 := (y 1).isLt
  have hy0 : (y 0).val = 0 := by have : (y 0).val < 1 := (y 0).isLt; omega
  by_cases hy : 128 * n ≤ (y 1).val ∧ (y 1).val < 128 * n + 128
  · have hr : (y 1).val - 128 * n < 128 := by omega
    have hyx : ∀ a, (y a).val = (![0, 128 * n, 0] : Fin 3 → ℕ) a + ((ix3 0 ⟨(y 1).val - 128 * n, hr⟩ ⟨(y 2).val, (y 2).isLt⟩ : S1x128x64.Idx) a).val := fun a =>
      match a with
      | ⟨0, _⟩ => by show (y 0).val = 0 + 0; omega
      | ⟨1, _⟩ => by show (y 1).val = 128 * n + ((y 1).val - 128 * n); omega
      | ⟨2, _⟩ => by show (y 2).val = 0 + (y 2).val; omega
    rw [View.read_writes_cons_unit_of_mem M4.view g (inb_rows n h) _ [] y (ix3 0 ⟨(y 1).val - 128 * n, hr⟩ ⟨(y 2).val, (y 2).isLt⟩ : S1x128x64.Idx) rfl hyx]
    refine (pay_apply _ _ _ _ _).trans ?_
    rw [col_apply _ n h, cnt_apply, val_apply]
    unfold blended blend
    rw [if_pos (by omega), View.readAt_apply]
    have e0 : (rowsBox n h).toLoadRect.idx (ix3 0 ⟨(y 1).val - 128 * n, hr⟩ ⟨(y 2).val, (y 2).isLt⟩ : S1x128x64.Idx) = y := funext fun a => Fin.ext (by
      refine Eq.trans ?_ (hyx a).symm
      show (![0, 128 * n, 0] : Fin 3 → ℕ) a + 1 * _ = _
      rw [Nat.one_mul])
    rw [e0]
    have e1 : (⟨(y 1).val - 128 * n, hr⟩ : Fin 128) = ⟨(y 1).val % 128, Nat.mod_lt _ (by decide)⟩ := Fin.ext (by show (y 1).val - 128 * n = (y 1).val % 128; omega)
    have e2 : (⟨n, h⟩ : Fin 16) = ⟨(y 1).val / 128, Nat.div_lt_of_lt_mul (y 1).isLt⟩ := Fin.ext (by show n = (y 1).val / 128; omega)
    rw [e1, e2]
  · rw [View.read_writes_cons_unit_of_not_mem M4.view g (inb_rows n h) _ [] y rfl 1 (by
      show (y 1).val < 128 * n ∨ 128 * n + 128 ≤ (y 1).val; omega)]
    show M4.view.read (Elt F) g y = _
    rw [hg]
    unfold blended
    by_cases hl : (y 1).val < 128 * n
    · rw [if_pos hl, if_pos (by omega)]
    · rw [if_neg hl, if_neg (by omega)]

/-! ## The run -/

theorem wp_step (c : Dev nD) (M0 M4 : Memref sig .tc .vmem S1x2048x64 .f32) (X0 : S1x2048x64.Idx → Elt F .f32) (X1 : Vec F S1x128x16 .f32) (X2 : Vec F S1x1x64 .f32)
    (X3 : Vec F S1x1x1 .f32) (Y : S1x2048x64.Idx → Elt F .f32) (n : ℕ) (h : n < 16) (k : BProg F PUnit) (Q : PUnit → sProp 𝕄) :
    iprop(owns (c : Thread nD τ) M0 fullShare X0 ∗ owns (c : Thread nD τ) M4 fullShare (blended X0 X1 X2 X3 Y n)
        ∗ (iprop(owns (c : Thread nD τ) M0 fullShare X0 ∗ owns (c : Thread nD τ) M4 fullShare (blended X0 X1 X2 X3 Y (n + 1)))
          -∗ wp frame (wpE (defs₀ (F := F)) 𝒱₀ (c : Thread nD τ) none) Set.univ k Q))
      ⊢ wp frame (wpE (defs₀ (F := F)) 𝒱₀ (c : Thread nD τ) none) Set.univ (step M0 M4 (k1_pay3 X2 X3) (k1_pay4 X1) n h k) Q := by
  unfold step owns
  iintro ⟨⟨%f, %hf, H0⟩, ⟨%g, %hg, H4⟩, Hk⟩
  iapply (wp_load 𝒱₀ (c : Thread nD τ) none Set.univ (m := M0) (M0.view.setOn_subset_set _)) $$ H0
  iintro H0
  iapply (wp_load 𝒱₀ (c : Thread nD τ) none Set.univ (m := M4) (M4.view.setOn_subset_set _)) $$ H4
  iintro H4
  iapply (wp_store_writes₀ 𝒱₀ (c : Thread nD τ) none Set.univ (m := M4) (r := rowsBox n h) (Memref.setOn_access_subset M4 _ _)) $$ H4
  iintro H4
  iapply Hk
  isplitl [H0]
  · iexists f; isplitr; (· ipureintro; exact hf); iexact H0
  subst hf
  iexists _; isplitr; swap; (· iexact H4)
  ipureintro
  exact blended_step M0 M4 X1 X2 X3 Y n h f g hg

theorem wp_steps (c : Dev nD) (M0 M4 : Memref sig .tc .vmem S1x2048x64 .f32) (X0 : S1x2048x64.Idx → Elt F .f32) (X1 : Vec F S1x128x16 .f32) (X2 : Vec F S1x1x64 .f32)
    (X3 : Vec F S1x1x1 .f32) (Y : S1x2048x64.Idx → Elt F .f32) (Q : PUnit → sProp 𝕄) : ∀ (k : ℕ) (h : k ≤ 16),
    iprop(owns (c : Thread nD τ) M0 fullShare X0 ∗ owns (c : Thread nD τ) M4 fullShare (blended X0 X1 X2 X3 Y (16 - k))
        ∗ (iprop(owns (c : Thread nD τ) M0 fullShare X0 ∗ owns (c : Thread nD τ) M4 fullShare (blended X0 X1 X2 X3 Y 16)) -∗ Q ⟨⟩))
      ⊢ wp frame (wpE (defs₀ (F := F)) 𝒱₀ (c : Thread nD τ) none) Set.univ (steps M0 M4 (k1_pay3 X2 X3) (k1_pay4 X1) k h) Q
  | 0, _ => by
    unfold steps
    iintro ⟨H0, H4, Hk⟩
    iapply (le_wp_ret _ _)
    iapply Hk
    isplitl [H0] <;> iassumption
  | k + 1, h => by
    unfold steps
    rw [show 16 - (k + 1) = 15 - k by omega]
    iintro ⟨H0, H4, Hk⟩
    iapply (wp_step c M0 M4 X0 X1 X2 X3 Y (15 - k) _ _ _)
    isplitl [H0]; · iexact H0
    isplitl [H4]; · iexact H4
    rw [show 15 - k + 1 = 16 - k by omega]
    iintro ⟨H0, H4⟩
    iapply (wp_steps c M0 M4 X0 X1 X2 X3 Y Q k (Nat.le_of_succ_le h))
    isplitl [H0]; · iexact H0
    isplitl [H4]; · iexact H4
    iexact Hk

theorem zero3 : (![0, 0, 0] : Fin 3 → Nat) = fun _ => 0 := funext fun a => by fin_cases a <;> rfl

/-- The body: from the four operands' blocks it leaves their blend in the result's block. -/
theorem wp_body (c : Dev nD) (i : grid1.Coords) (M0 : Memref sig .tc .vmem S1x2048x64 .f32) (h0 : M0.IsWhole) (M1 : Memref sig .tc .vmem S1x128x16 .f32) (h1 : M1.IsWhole)
    (M2 : Memref sig .tc .vmem S1x1x64 .f32) (h2 : M2.IsWhole) (M3 : Memref sig .tc .vmem S1x1x1 .f32) (h3 : M3.IsWhole)
    (M4 : Memref sig .tc .vmem S1x2048x64 .f32) (h4 : M4.IsWhole) (X0 : S1x2048x64.Idx → Elt F .f32) (X1 : Vec F S1x128x16 .f32) (X2 : Vec F S1x1x64 .f32)
    (X3 : Vec F S1x1x1 .f32) (Y : S1x2048x64.Idx → Elt F .f32) (Q : PUnit → sProp 𝕄) :
    iprop(owns (c : Thread nD τ) M0 fullShare X0 ∗ owns (c : Thread nD τ) M1 fullShare X1 ∗ owns (c : Thread nD τ) M2 fullShare X2
        ∗ owns (c : Thread nD τ) M3 fullShare X3 ∗ owns (c : Thread nD τ) M4 fullShare Y
        ∗ (iprop(owns (c : Thread nD τ) M0 fullShare X0 ∗ owns (c : Thread nD τ) M1 fullShare X1 ∗ owns (c : Thread nD τ) M2 fullShare X2
            ∗ owns (c : Thread nD τ) M3 fullShare X3 ∗ owns (c : Thread nD τ) M4 fullShare (blend X0 X1 X2 X3)) -∗ Q ⟨⟩))
      ⊢ wp frame (wpE (defs₀ (F := F)) 𝒱₀ (c : Thread nD τ) none) Set.univ (cc1__tc_body i M0 h0 M1 h1 M2 h2 M3 h3 M4 h4) Q := by
  rw [body_eq_steps]
  unfold blendProg
  have hb0 : blended X0 X1 X2 X3 Y (16 - 16) = Y := funext fun y => if_neg (by omega)
  have hb16 : blended X0 X1 X2 X3 Y 16 = blend X0 X1 X2 X3 := funext fun y => if_pos (y 1).isLt
  have hs := fun Q' => wp_steps (F := F) c M0 M4 X0 X1 X2 X3 Y Q' 16 (Nat.le_refl _)
  rw [hb0, hb16] at hs
  rw [show (owns (c : Thread nD τ) M1 fullShare X1 : sProp 𝕄) = iprop(∃ f, ⌜M1.view.read (Elt F) f = X1⌝ ∗ (M1.view.loc (c : Thread nD τ) ↦[M1.view.set]{fullShare} f)) from rfl,
    show (owns (c : Thread nD τ) M2 fullShare X2 : sProp 𝕄) = iprop(∃ f, ⌜M2.view.read (Elt F) f = X2⌝ ∗ (M2.view.loc (c : Thread nD τ) ↦[M2.view.set]{fullShare} f)) from rfl,
    show (owns (c : Thread nD τ) M3 fullShare X3 : sProp 𝕄) = iprop(∃ f, ⌜M3.view.read (Elt F) f = X3⌝ ∗ (M3.view.loc (c : Thread nD τ) ↦[M3.view.set]{fullShare} f)) from rfl]
  iintro ⟨H0, ⟨%f1, %hf1, H1⟩, ⟨%f2, %hf2, H2⟩, ⟨%f3, %hf3, H3⟩, H4, Hk⟩
  iapply (wp_load 𝒱₀ (c : Thread nD τ) none Set.univ (m := M2) (M2.view.setOn_subset_set _)) $$ H2
  iintro H2
  iapply (wp_load 𝒱₀ (c : Thread nD τ) none Set.univ (m := M3) (M3.view.setOn_subset_set _)) $$ H3
  iintro H3
  iapply (wp_load 𝒱₀ (c : Thread nD τ) none Set.univ (m := M1) (M1.view.setOn_subset_set _)) $$ H1
  iintro H1
  have e1 : M1.view.readAt (Elt F) (Rect.unit (s := S1x128x16) ![0, 0, 0] S1x128x16.size inb_S1x128x16_S1x128x16_0_0_0).toLoadRect f1 = X1 := by
    rw [View.readAt_eq_ld, View.ld_unit_zero (S := S1x128x16) zero3, hf1]
  have e2 : M2.view.readAt (Elt F) (Rect.unit (s := S1x1x64) ![0, 0, 0] S1x1x64.size inb_S1x1x64_S1x1x64_0_0_0).toLoadRect f2 = X2 := by
    rw [View.readAt_eq_ld, View.ld_unit_zero (S := S1x1x64) zero3, hf2]
  have e3 : M3.view.readAt (Elt F) (Rect.unit (s := S1x1x1) ![0, 0, 0] S1x1x1.size inb_S1x1x1_S1x1x1_0_0_0).toLoadRect f3 = X3 := by
    rw [View.readAt_eq_ld, View.ld_unit_zero (S := S1x1x1) zero3, hf3]
  rw [e1, e2, e3]
  iapply (hs Q)
  isplitl [H0]; · iexact H0
  isplitl [H4]; · iexact H4
  iintro ⟨H0, H4⟩
  iapply Hk
  isplitl [H0]; · iexact H0
  isplitl [H1]
  · iexists f1; isplitr; (· ipureintro; exact hf1); iexact H1
  isplitl [H2]
  · iexists f2; isplitr; (· ipureintro; exact hf2); iexact H2
  isplitl [H3]
  · iexists f3; isplitr; (· ipureintro; exact hf3); iexact H3
  iexact H4

end Cert.KernelIdeal.Hist

end
-- ==== Proof.IdealRegion.lean ====
/- The blending region of the TensorCore: 512 points, each fetching a block of the memory, of the counts, of the
   content and of the gate, and writing the block of the result. Entered with every unscoped buffer at some contents,
   it is left with the result at the blend of those contents, and every other buffer as it was.
   Here for the program read at the extended reals. -/
module

public import proofs.«01_k».proof.Proof.IdealBlend
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop

@[expose] public section

noncomputable section

namespace Cert.KernelIdeal.Hist

open Cert.KernelIdeal Cert.KernelIdeal.Gen
open Idealize.ShloMosaic Idealize.ShloMosaic.ValueIdx Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- What every unscoped buffer of each TensorCore holds. -/
abbrev Vals (F : FTy → Type) : Type := (c : Dev nD) → (b : Ref sig .tc) → Buf (Elt F) ((c : Thread nD τ).loc b)

variable (V : Vals F) (b : ℕ)

/-- The block of window `w` at point `t`, of the buffers as the region found them. -/
abbrev blk (c : Dev nD) (w : Fin 5) (t : Fin cfg1.N) : ((cfg1.win w).xblock (cfg1.grid.coords t)).Idx → Elt F (cfg1.win w).elt :=
  ((cfg1.win w).blk t).view.read (Elt F) (V c (Pipeline.arrRef spec1 w))

/-- The blend of the four blocks at point `t`. -/
abbrev mixed (c : Dev nD) (t : Fin cfg1.N) : S1x2048x64.Idx → Elt F .f32 :=
  blend (blk V c 0 t) (blk V c 1 t) (blk V c 2 t) (blk V c 3 t)

/-- The region's data: the arrays as found; each input's block left in place and the result's at the blend; nothing
    owed; the waits recorded all of level at most `b`. -/
def dat (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => mixed V c t
  Φ _ := BI.emp
  q _ := fullShare
  owed _ := 0
  recorded _ := {p | (K (F := F)).lev (SparseCore.T c, p.1) p.2 ≤ b}

theorem before_0 (c : Dev nD) (t : Fin cfg1.N) (d) : (dat V b c).before 0 t d = blk V c 0 t :=
  (dat V b c).before_in_eq_fetched 0 rfl (fun _ => rfl) (fun _ _ _ => rfl) (fun _ => rfl) t d
theorem before_1 (c : Dev nD) (t : Fin cfg1.N) (d) : (dat V b c).before 1 t d = blk V c 1 t :=
  (dat V b c).before_in_eq_fetched 1 rfl (fun _ => rfl) (fun _ _ _ => rfl) (fun _ => rfl) t d
theorem before_2 (c : Dev nD) (t : Fin cfg1.N) (d) : (dat V b c).before 2 t d = blk V c 2 t :=
  (dat V b c).before_in_eq_fetched 2 rfl (fun _ => rfl) (fun _ _ _ => rfl) (fun _ => rfl) t d
theorem before_3 (c : Dev nD) (t : Fin cfg1.N) (d) : (dat V b c).before 3 t d = blk V c 3 t :=
  (dat V b c).before_in_eq_fetched 3 rfl (fun _ => rfl) (fun _ _ _ => rfl) (fun _ => rfl) t d

/-- The body at every point: the blocks taken from the windows, the blend left. -/
theorem body_obligation (c : Dev nD) : BodyObligation (dat V b c) (defs₀ (F := F)) 𝒱₀ (none : HIx 1) Set.univ := fun t => by
  rw [bigSep_W1, bigSep_W1]
  rw [show (dat V b c).Φ t.castSucc = (BI.emp : sProp 𝕄) from rfl, show (dat V b c).Φ t.succ = (BI.emp : sProp 𝕄) from rfl,
    show (dat V b c).owesAt (none : HIx 1) t.succ = (dat V b c).owesAt none t.castSucc from rfl]
  iintro ⟨-, Howes, ⟨%d0, H0⟩, ⟨%d1, H1⟩, ⟨%d2, H2⟩, ⟨%d3, H3⟩, ⟨%d4, H4⟩⟩
  rw [before_0, before_1, before_2, before_3]
  iapply (wp_body c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (blk V c 0 t) (blk V c 1 t) (blk V c 2 t) (blk V c 3 t) ((dat V b c).before 4 t d4))
  isplitl [H0]; · iexact H0
  isplitl [H1]; · iexact H1
  isplitl [H2]; · iexact H2
  isplitl [H3]; · iexact H3
  isplitl [H4]; · iexact H4
  iintro ⟨H0, H1, H2, H3, H4⟩
  isplitr; · iempintro
  isplitl [Howes]; · iexact Howes
  isplitl [H0]; · iexact H0
  isplitl [H1]; · iexact H1
  isplitl [H2]; · iexact H2
  isplitl [H3]; · iexact H3
  iexact H4

/-! ## What the result holds at the end -/

/-- The result: at batch `n`, slot `s`, lane `e`. -/
def result (c : Dev nD) : S64x16384x64.Idx → Elt F .f32 := fun y =>
  FloatOps.addf (FloatOps.mulf ((V c main_arg0 : S64x16384x64.Idx → Elt F .f32) y) (Scalar.ofBits .f32 0x3F733333#32))
    (FloatOps.mulf ((V c main_v2 : S512x128x16.Idx → Elt F .f32)
        (ix3 ⟨8 * (y 0).val + (y 1).val / 2048, by have h0 : (y 0).val < 64 := (y 0).isLt; have h1 : (y 1).val < 16384 := (y 1).isLt; omega⟩
          ⟨(y 1).val % 128, Nat.mod_lt _ (by decide)⟩
          ⟨(y 1).val % 2048 / 128, by have := Nat.mod_lt (y 1).val (show 0 < 2048 by decide); omega⟩))
      (FloatOps.mulf ((V c main_v3 : S64x1x64.Idx → Elt F .f32) (ix3 ⟨(y 0).val, (y 0).isLt⟩ 0 ⟨(y 2).val, (y 2).isLt⟩))
        ((V c main_v4 : S64x1x1.Idx → Elt F .f32) (ix3 ⟨(y 0).val, (y 0).isLt⟩ 0 0))))

theorem index_0 : ∀ t : Fin grid1.N, win1_0.index t 0 = t.val / 8 ∧ win1_0.index t 1 = t.val % 8 ∧ win1_0.index t 2 = 0 := by decide +kernel
theorem index_1 : ∀ t : Fin grid1.N, win1_1.index t 0 = t.val ∧ win1_1.index t 1 = 0 ∧ win1_1.index t 2 = 0 := by decide +kernel
theorem index_2 : ∀ t : Fin grid1.N, win1_2.index t 0 = t.val / 8 ∧ win1_2.index t 1 = 0 ∧ win1_2.index t 2 = 0 := by decide +kernel
theorem index_3 : ∀ t : Fin grid1.N, win1_3.index t 0 = t.val / 8 ∧ win1_3.index t 1 = 0 ∧ win1_3.index t 2 = 0 := by decide +kernel
theorem index_4 : ∀ t : Fin grid1.N, win1_4.index t 0 = t.val / 8 ∧ win1_4.index t 1 = t.val % 8 ∧ win1_4.index t 2 = 0 := by decide +kernel

/-- What block `t` of window 0 holds at `y`, and likewise the other inputs': the array at that place. -/
theorem blk0_apply (c : Dev nD) (t : Fin cfg1.N) (y : S1x2048x64.Idx) : (blk V c 0 t : S1x2048x64.Idx → Elt F .f32) y
    = (V c main_arg0 : S64x16384x64.Idx → Elt F .f32) (((cfg1.win 4).blk t).view.emb y) := by
  show (V c main_arg0 : S64x16384x64.Idx → Elt F .f32) (((cfg1.win 0).blk t).view.emb y) = _
  refine congrArg _ (funext fun a => Fin.ext ?_)
  obtain ⟨i0, i1, i2⟩ := index_0 t
  obtain ⟨j0, j1, j2⟩ := index_4 t
  match a with
  | ⟨0, _⟩ => show win1_0.index t 0 * 1 + 1 * (y 0).val = win1_4.index t 0 * 1 + 1 * (y 0).val; rw [i0, j0]
  | ⟨1, _⟩ => show win1_0.index t 1 * 2048 + 1 * (y 1).val = win1_4.index t 1 * 2048 + 1 * (y 1).val; rw [i1, j1]
  | ⟨2, _⟩ => show win1_0.index t 2 * 64 + 1 * (y 2).val = win1_4.index t 2 * 64 + 1 * (y 2).val; rw [i2, j2]

theorem place_4 (t : Fin cfg1.N) (y : S1x2048x64.Idx) :
    ((((cfg1.win 4).blk t).view.emb y : S64x16384x64.Idx) 0).val = t.val / 8
      ∧ ((((cfg1.win 4).blk t).view.emb y : S64x16384x64.Idx) 1).val = t.val % 8 * 2048 + (y 1).val
      ∧ ((((cfg1.win 4).blk t).view.emb y : S64x16384x64.Idx) 2).val = (y 2).val := by
  obtain ⟨j0, j1, j2⟩ := index_4 t
  have h0 : (y 0).val < 1 := (y 0).isLt
  refine ⟨?_, ?_, ?_⟩
  · show win1_4.index t 0 * 1 + 1 * (y 0).val = _; rw [j0]; omega
  · show win1_4.index t 1 * 2048 + 1 * (y 1).val = _; rw [j1]; omega
  · show win1_4.index t 2 * 64 + 1 * (y 2).val = _; rw [j2]; omega

theorem blk1_apply (c : Dev nD) (t : Fin cfg1.N) (i : Fin 512) (hi : i.val = t.val) (r : Fin 128) (u : Fin 16) :
    (blk V c 1 t : S1x128x16.Idx → Elt F .f32) (ix3 0 r u) = (V c main_v2 : S512x128x16.Idx → Elt F .f32) (ix3 i r u) := by
  show (V c main_v2 : S512x128x16.Idx → Elt F .f32) (((cfg1.win 1).blk t).view.emb (ix3 0 r u : S1x128x16.Idx)) = _
  refine congrArg _ (funext fun a => Fin.ext ?_)
  obtain ⟨i0, i1, i2⟩ := index_1 t
  match a with
  | ⟨0, _⟩ => show win1_1.index t 0 * 1 + 1 * 0 = i.val; rw [i0]; omega
  | ⟨1, _⟩ => show win1_1.index t 1 * 128 + 1 * r.val = r.val; rw [i1]; omega
  | ⟨2, _⟩ => show win1_1.index t 2 * 16 + 1 * u.val = u.val; rw [i2]; omega

theorem blk2_apply (c : Dev nD) (t : Fin cfg1.N) (i : Fin 64) (hi : i.val = t.val / 8) (e e' : Fin 64) (he : e.val = e'.val) :
    (blk V c 2 t : S1x1x64.Idx → Elt F .f32) (ix3 0 0 e) = (V c main_v3 : S64x1x64.Idx → Elt F .f32) (ix3 i 0 e') := by
  show (V c main_v3 : S64x1x64.Idx → Elt F .f32) (((cfg1.win 2).blk t).view.emb (ix3 0 0 e : S1x1x64.Idx)) = _
  refine congrArg _ (funext fun a => Fin.ext ?_)
  obtain ⟨i0, i1, i2⟩ := index_2 t
  match a with
  | ⟨0, _⟩ => show win1_2.index t 0 * 1 + 1 * 0 = i.val; rw [i0]; omega
  | ⟨1, _⟩ => show win1_2.index t 1 * 1 + 1 * 0 = 0; rw [i1]
  | ⟨2, _⟩ => show win1_2.index t 2 * 64 + 1 * e.val = e'.val; rw [i2]; omega

theorem blk3_apply (c : Dev nD) (t : Fin cfg1.N) (i : Fin 64) (hi : i.val = t.val / 8) :
    (blk V c 3 t : S1x1x1.Idx → Elt F .f32) (ix3 0 0 0) = (V c main_v4 : S64x1x1.Idx → Elt F .f32) (ix3 i 0 0) := by
  show (V c main_v4 : S64x1x1.Idx → Elt F .f32) (((cfg1.win 3).blk t).view.emb (ix3 0 0 0 : S1x1x1.Idx)) = _
  refine congrArg _ (funext fun a => Fin.ext ?_)
  obtain ⟨i0, i1, i2⟩ := index_3 t
  match a with
  | ⟨0, _⟩ => show win1_3.index t 0 * 1 + 1 * 0 = i.val; rw [i0]; omega
  | ⟨1, _⟩ => show win1_3.index t 1 * 1 + 1 * 0 = 0; rw [i1]
  | ⟨2, _⟩ => show win1_3.index t 2 * 1 + 1 * 0 = 0; rw [i2]

/-- The blend at point `t` is the result read through the block. -/
theorem mixed_apply (c : Dev nD) (t : Fin cfg1.N) (y : S1x2048x64.Idx) :
    mixed V c t y = result V c (((cfg1.win 4).blk t).view.emb y) := by
  obtain ⟨p0, p1, p2⟩ := place_4 t y
  have h1 : (y 1).val < 2048 := (y 1).isLt
  have ht : t.val < 512 := Nat.lt_of_lt_of_eq t.isLt N_1
  unfold mixed blend result
  refine congrArg₂ FloatOps.addf (congrArg₂ FloatOps.mulf (blk0_apply V c t y) rfl) (congrArg₂ FloatOps.mulf ?_ (congrArg₂ FloatOps.mulf ?_ ?_))
  · refine (blk1_apply V c t ⟨t.val, ht⟩ rfl _ _).trans (congrArg _ ?_)
    refine congr (congrArg₂ ix3 (Fin.ext ?_) (Fin.ext ?_)) (Fin.ext ?_)
    · show t.val = 8 * _ + _ / 2048; rw [p0, p1]; omega
    · show (y 1).val % 128 = _ % 128; rw [p1]; omega
    · show (y 1).val / 128 = _ % 2048 / 128; rw [p1]; omega
  · exact blk2_apply V c t _ p0 _ _ p2.symm
  · exact blk3_apply V c t _ p0

/-- The result array at the end of the region. -/
theorem final_result (c : Dev nD) : (dat V b c).arrAt 4 cfg1.N = result V c := by
  refine (dat V b c).arrAt_eq_of_cover 4 (result V c) (fun t _ => funext fun y => mixed_apply V c t y) fun i => ?_
  have h0 : (i 0).val < 64 := (i 0).isLt
  have h1 : (i 1).val < 16384 := (i 1).isLt
  have h2 : (i 2).val < 64 := (i 2).isLt
  have hN : cfg1.N = 512 := N_1
  obtain ⟨t, ht⟩ : ∃ t : Fin grid1.N, t.val = 8 * (i 0).val + (i 1).val / 2048 := ⟨⟨_, by show _ < cfg1.N; omega⟩, rfl⟩
  obtain ⟨j0, j1, j2⟩ := index_4 t
  refine ⟨t, flush1_4 t, ?_⟩
  show i ∈ ((View.whole main_v5).slice (win1_4.rect t)).set
  rw [View.set_slice_whole, Rect.mem_set_unit]
  intro a
  match a with
  | ⟨0, _⟩ => show win1_4.index t 0 * 1 ≤ (i 0).val ∧ (i 0).val < win1_4.index t 0 * 1 + 1
              rw [j0]; omega
  | ⟨1, _⟩ => show win1_4.index t 1 * 2048 ≤ (i 1).val ∧ (i 1).val < win1_4.index t 1 * 2048 + 2048
              rw [j1]; omega
  | ⟨2, _⟩ => show win1_4.index t 2 * 64 ≤ (i 2).val ∧ (i 2).val < win1_4.index t 2 * 64 + 64
              rw [j2]; omega

/-! ## The region over the TensorCore's unscoped buffers -/

abbrev adm : (p : Fin 1) → (pcfgs (F := F) p).Adm := fun p => (cfgs p).toPCfg_adm

/-- The proof data of every pipeline of the program: the one there is. -/
def pdats : (p : Fin 1) → (c : Dev nD) → Dat τ (Elt F) (HIx 1) ℕ UU ℕ (Pipeline.pin (pcfgs (F := F)) adm p) c
  | ⟨0, _⟩ => fun c => dat V b c

/-- The buffers after the region: the result's array at the result, the others as they were. -/
def afterRegion : Vals F := fun c => Function.update (V c) main_v5 (result V c)

theorem afterRegion_out (c : Dev nD) : afterRegion V c main_v5 = result V c := by
  unfold afterRegion; exact Function.update_self ..
theorem afterRegion_ne (c : Dev nD) (r : Ref sig .tc) (h : r ≠ main_v5) : afterRegion V c r = V c r := by
  unfold afterRegion; exact Function.update_of_ne h ..

set_option backward.isDefEq.respectTransparency.types false in
/-- The region: the unscoped buffers at `V` and the core's debts none, its recorded waits of level at most `b`; left
    with the unscoped buffers at `afterRegion V`. -/
def reg : Pipeline.RegionSeg (pcfgs (F := F)) adm (pdats V b) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V b c).loose
  hwaits := Pipeline.hwaits_of_owed_zero _ _ _ _ _ _ 0 fun _ _ => rfl
  pre c := iprop(unscopedBufs c (V c) ∗ ∃ W, ⌜(K (F := F)).WBelow (SparseCore.T c) W b⌝ ∗ owes (c : Thread nD τ) (0 : CellTallies nD τ sig (HIx 1)) W)
  post c := iprop(unscopedBufs c (afterRegion V c) ∗ ∃ W, ⌜(K (F := F)).WBelow (SparseCore.T c) W b⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b) launch1.win launch1.arr_whole c
      ((pdats V b 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V b 0 c).Φ 0 = (BI.emp : sProp 𝕄) from rfl]
    iintro -; iempintro
  hout c := by
    rw [Pipeline.ownSems0_none, show (pdats V b 0 c).Φ (Fin.last _) = (BI.emp : sProp 𝕄) from rfl,
      show (Pipeline.scopedRest (Ix := HIx 1) (Name := ℕ) (U := UU) (Lvl := ℕ) (Val := Elt F) (Pipeline.pin (pcfgs (F := F)) adm 0).spec c : sProp 𝕄) = BI.emp from scopedRest1_eq c]
    iintro -
    isplitr; · iempintro
    isplitr; · iempintro
    iempintro
  hexit c := by
    have hjoin := Pipeline.unscopedBufs_of_arrays (p := 0) (pcfgs (F := F)) adm (Ix := HIx 1) (Name := ℕ) (U := UU) (Lvl := ℕ) launch1.win launch1.arr_whole c
      (pdats V b) ((pdats V b 0 c).share_full fun _ => rfl) (V c) (afterRegion V c) ((pdats V b 0 c).arrAt · cfg1.N)
      (fun w => by
        fin_cases w
        · exact ((pdats V b 0 c).arrAt_in 0 rfl _).trans (afterRegion_ne V c main_arg0 (by decide)).symm
        · exact ((pdats V b 0 c).arrAt_in 1 rfl _).trans (afterRegion_ne V c main_v2 (by decide)).symm
        · exact ((pdats V b 0 c).arrAt_in 2 rfl _).trans (afterRegion_ne V c main_v3 (by decide)).symm
        · exact ((pdats V b 0 c).arrAt_in 3 rfl _).trans (afterRegion_ne V c main_v4 (by decide)).symm
        · exact (final_result V b c).trans (afterRegion_out V c).symm)
      (fun r hr => afterRegion_ne V c r fun h => hr (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.zero_le b
    iexact HO

end Cert.KernelIdeal.Hist

end
-- ==== Proof.IdealMain.lean ====
/- The TensorCore's program: the zeros written, the histogram call run, three arrays reshaped, the blending region run;
   from the launch's buffers it leaves the result at the blend of the memory with the counts, and the four arguments as
   they were.
   Here for the program read at the extended reals. -/
module

public import proofs.«01_k».proof.Proof.IdealDeal
public import proofs.«01_k».proof.Proof.IdealRegion
public import Idealize.ShloMosaic.Lib.Pipeline.Frame

@[expose] public section

noncomputable section

namespace Cert.KernelIdeal.Hist

open Cert.KernelIdeal Cert.KernelIdeal.Gen
open Idealize.ShloMosaic Idealize.ShloMosaic.ValueIdx Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within)
open Idealize.ShloMosaic.Pipeline (ucRefs)

variable {F : FTy → Type} [FloatOps F]

local notation "𝕄" => MT nD τ sig (HIx 1) (Elt F) ℕ UU ℕ

/-! ## The region, called from the program -/

/-- The region's rounds as dealt at the launch. -/
abbrev ghost (d : Dev nD) : sProp (MT nD τ sig (HIx 1) (Elt F) ℕ UU ℕ) :=
  iprop(Pipeline.cellsGhost (Pipeline.pin (pcfgs (F := F)) adm) EP 0 d ∗ Pipeline.toksInit (Pipeline.pin (pcfgs (F := F)) adm) EP 0 d)

/-- The core's debts: none, its recorded waits of level at most `b`. -/
abbrev noDebt (b : ℕ) (d : Dev nD) : sProp (MT nD τ sig (HIx 1) (Elt F) ℕ UU ℕ) :=
  iprop(∃ W, ⌜(K (F := F)).WBelow (SparseCore.T d) W b⌝ ∗ owes (SparseCore.T d) (0 : CellTallies nD τ sig (HIx 1)) W)

theorem reg_pre (V : Vals F) (b : ℕ) (d : Dev nD) : (reg V b).pre d = iprop(unscopedBufs d (V d) ∗ noDebt b d) := rfl
theorem reg_post (V : Vals F) (b : ℕ) (d : Dev nD) : (reg V b).post d = iprop(unscopedBufs d (afterRegion V d) ∗ noDebt b d) := rfl

theorem wp_region [∀ e, Nonempty (Elt F e)] (V : Vals F) (b : ℕ) (d : Dev nD) (Q : PUnit → sProp 𝕄) :
    iprop(boundary (SparseCore.T d) ∗ unscopedBufs d (V d) ∗ noDebt b d ∗ levAts (K (F := F)).L (K (F := F)).lev ∗ ghost d
        ∗ (iprop(boundary (SparseCore.T d) ∗ unscopedBufs d (afterRegion V d) ∗ noDebt b d) -∗ Q ⟨⟩))
      ⊢ wp frame (wpE ((K (F := F)).defs (D (F := F))) 𝒱 (SparseCore.T d) none) Set.univ
          (Prog.lift (.customCall (SparseCore.inner (Pipeline.entry 0)) ())) Q := by
  change _ ⊢ wp _ _ _ (SparseCore.liftProg (Prog.op (.customCall (Pipeline.entry (0 : Fin 1)) ()) fun x => .ret x)) _
  refine BI.Entails.trans ?_ ((K (F := F)).wp_liftProg (D (F := F)) 𝒱 (SparseCore.T d) Set.univ none _ _)
  refine (?_ : _ ⊢ _).trans (Pipeline.RegionSeg.wp (pcfgs (F := F)) adm (pdats V b) (none : HIx 1) cellOf_inj EP defs₀ 𝒱₀ (K (F := F)).L (K (F := F)).lev
    (reg V b) d none (fun u hu => nomatch hu) _ _)
  rw [reg_pre, reg_post]
  iintro ⟨Hb, Hu, HO, Hl, ⟨Hg, Ht⟩, Hk⟩
  isplitl [Hk]
  · iintro ⟨Hb, Hp⟩
    rw [wp_ret]; imodintro
    iapply Hk
    isplitl [Hb]; · iexact Hb
    iexact Hp
  isplitl [Hb]; · iexact Hb
  isplitl [Hu HO]
  · isplitl [Hu]; · iexact Hu
    iexact HO
  isplitl [Hl]; · iexact Hl
  isplitl [Hg]; · iexact Hg
  iexact Ht

/-! ## The arrays through the program -/

abbrev opCst : HloOp τ sig (Elt F) := StableHlo.nullary main_cst (constant S_ .f32 0x00000000#32)
abbrev opZero : HloOp τ sig (Elt F) := StableHlo.unary main_cst main_v0
  (broadcastInDim S16384 ![] bcast_S_S16384 : (⟨S_, .f32⟩ : BufTy).Contents (Elt F) → (⟨S16384, .f32⟩ : BufTy).Contents (Elt F))
abbrev opCnt : HloOp τ sig (Elt F) := StableHlo.reshape main_v1 main_v2 (rfl : (.f32 : EltTy) = .f32) shapeCasts_S64x16384_S512x128x16
abbrev opVal : HloOp τ sig (Elt F) := StableHlo.reshape main_arg2 main_v3 (rfl : (.f32 : EltTy) = .f32) shapeCasts_S64x64_S64x1x64
abbrev opGate : HloOp τ sig (Elt F) := StableHlo.reshape main_arg3 main_v4 (rfl : (.f32 : EltTy) = .f32) shapeCasts_S64x1_S64x1x1

abbrev ref (r : Ref sig .tc) : DevRef τ sig := Proc.devRef .tc r

theorem sub_cst : (opCst (F := F)).bufs ⊆ ucRefs τ sig := show ({ref main_cst} : Finset (DevRef τ sig)) ⊆ ucRefs τ sig by decide
theorem sub_zero : (opZero (F := F)).bufs ⊆ ucRefs τ sig := show ({ref main_cst, ref main_v0} : Finset (DevRef τ sig)) ⊆ ucRefs τ sig by decide
theorem sub_cnt : (opCnt (F := F)).bufs ⊆ ucRefs τ sig := show ({ref main_v1, ref main_v2} : Finset (DevRef τ sig)) ⊆ ucRefs τ sig by decide
theorem sub_val : (opVal (F := F)).bufs ⊆ ucRefs τ sig := show ({ref main_arg2, ref main_v3} : Finset (DevRef τ sig)) ⊆ ucRefs τ sig by decide
theorem sub_gate : (opGate (F := F)).bufs ⊆ ucRefs τ sig := show ({ref main_arg3, ref main_v4} : Finset (DevRef τ sig)) ⊆ ucRefs τ sig by decide

variable (m : (ℓ : Loc nD τ sig) → Buf (Elt F) ℓ)

/-- The arrays at the launch, before the call, after it, and before the region. -/
def V0 (d : Dev nD) : Valuation τ sig (Elt F) := fun r => m (d, r)
def V1 (d : Dev nD) : Valuation τ sig (Elt F) := (opZero (F := F)).result ((opCst (F := F)).result (V0 m d))
def V2 (d : Dev nD) : Valuation τ sig (Elt F) := Function.update (V1 m d) (ref main_v1) (counts m d)
def V3 (d : Dev nD) : Valuation τ sig (Elt F) := (opGate (F := F)).result ((opVal (F := F)).result ((opCnt (F := F)).result (V2 m d)))

/-- The same, as the region finds them. -/
def atRegion : Vals F := fun d r => V3 m d (ref r)

theorem V1_zero (d : Dev nD) : V1 m d (ref main_v0) = (zeros : CBuf F) := by
  unfold V1
  rw [StableHlo.unary_result, StableHlo.nullary_result]
  rfl
theorem V1_ne (d : Dev nD) (r : DevRef τ sig) (h0 : r ≠ ref main_v0) (h1 : r ≠ ref main_cst) : V1 m d r = m (d, r) := by
  unfold V1
  rw [(opZero (F := F)).result_of_not_mem _ (b := r) (fun h => h0 (Finset.mem_singleton.mp h)),
    (opCst (F := F)).result_of_not_mem _ (b := r) (fun h => h1 (Finset.mem_singleton.mp h))]
  rfl

/-- The three arrays of the call, among the unscoped ones. -/
abbrev S3 : Finset (DevRef τ sig) := {ref main_arg1, ref main_v0, ref main_v1}

theorem S3_sub : S3 ⊆ ucRefs τ sig := by decide

omit [FloatOps F] in
theorem held_S3 (d : Dev nD) (W : Valuation τ sig (Elt F)) :
    (held (SparseCore.T d) S3 W : sProp 𝕄) = iprop((iLoc d ↦{fullShare} W (ref main_arg1)) ∗ (zLoc d ↦{fullShare} W (ref main_v0)) ∗ oLoc d ↦{fullShare} W (ref main_v1)) := by
  unfold held S3
  rw [SparseCore.bigSep_insert' (by decide), SparseCore.bigSep_insert' (by decide), bigSep_singleton]

/-- Before the call: the arrays split into the call's three and the rest. -/
theorem held_V1 (d : Dev nD) : (held (SparseCore.T d) (ucRefs τ sig) (V1 m d) : sProp 𝕄)
    = iprop(((iLoc d ↦{fullShare} m (iLoc d)) ∗ (zLoc d ↦{fullShare} (zeros : CBuf F)) ∗ oLoc d ↦{fullShare} m (oLoc d))
        ∗ held (SparseCore.T d) (ucRefs τ sig \ S3) (V1 m d)) := by
  rw [StableHlo.held_sub_split _ S3_sub, held_S3, V1_zero, V1_ne m d (ref main_arg1) (by decide) (by decide), V1_ne m d (ref main_v1) (by decide) (by decide)]

/-- After it: the same with the counts. -/
theorem held_V2 (d : Dev nD) : (held (SparseCore.T d) (ucRefs τ sig) (V2 m d) : sProp 𝕄)
    = iprop(((iLoc d ↦{fullShare} m (iLoc d)) ∗ (zLoc d ↦{fullShare} (zeros : CBuf F)) ∗ oLoc d ↦{fullShare} counts m d)
        ∗ held (SparseCore.T d) (ucRefs τ sig \ S3) (V1 m d)) := by
  rw [StableHlo.held_sub_split _ S3_sub, held_S3]
  unfold V2
  rw [Function.update_self, Function.update_of_ne (show ref main_v0 ≠ ref main_v1 by decide), Function.update_of_ne (show ref main_arg1 ≠ ref main_v1 by decide),
    V1_zero, V1_ne m d (ref main_arg1) (by decide) (by decide),
    StableHlo.held_congr (SparseCore.T d) (S := ucRefs τ sig \ S3) (V' := V1 m d) fun r hr =>
      Function.update_of_ne (fun h => (Finset.mem_sdiff.mp hr).2 (by rw [h]; decide)) _ _]

/-- What the program leaves of its arrays. -/
abbrev FIN (d : Dev nD) : sProp (MT nD τ sig (HIx 1) (Elt F) ℕ UU ℕ) := unscopedBufs d (afterRegion (atRegion m) d)

variable (ρ : Dev nD → PrngReg)

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) (ucRefs τ sig) (V0 m d) from
    Pipeline.unscopedBufs_held d (V0 m d)]
  simp only [main, wp_bind, wp_pure]
  iintro ⟨#Hctx, Hst, ⟨Hb, Hheld, Hts, -⟩, HG⟩
  iapply (wp_hlo_within 𝒱 (SparseCore.T d) none Set.univ (op := opCst) (S := ucRefs τ sig) sub_cst (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opZero) (S := ucRefs τ sig) sub_zero (V := _)) $$ [Hb Hheld]
  · isplitl [Hb]; · iexact Hb
    iexact Hheld
  iintro ⟨Hb, Hheld⟩
  rw [wp_ret]; imodintro
  ihave Hh := (Entails.of_eq (show (held (SparseCore.T d) (ucRefs τ sig) ((opZero (F := F)).result ((opCst (F := F)).result (V0 m d))) : sProp 𝕄) = _ from held_V1 m d)) $$ Hheld
  icases Hh with ⟨H3, Hrest⟩
  -- the call
  iapply ((K (F := F)).wp_run (D (F := F)) 𝒱 (EH := EH) (P := P m) κ d 0) $$ [Hst H3 Hb Hts HG Hrest]
  isplitr; · iexact Hctx
  isplitl [Hst]; · iexact Hst
  isplitl [H3]; · rw [st0_eq]; iexact H3
  iintro ⟨Hst, Hdn⟩
  ihave H3 := (Entails.of_eq (dn0_eq m d)) $$ Hdn
  ihave Hheld := (Entails.of_eq (held_V2 m d).symm) $$ [H3 Hrest]
  · isplitl [H3] <;> iassumption
  -- the three reshapes
  iapply (wp_hlo_within 𝒱 (SparseCore.T d) none Set.univ (op := opCnt) (S := ucRefs τ sig) sub_cnt (V := V2 m d)) $$ [Hb Hheld]
  · isplitl [Hb]; · iexact Hb
    iexact Hheld
  iintro ⟨Hb, Hheld⟩
  rw [wp_ret]; imodintro
  iapply (wp_hlo_within 𝒱 (SparseCore.T d) none Set.univ (op := opVal) (S := ucRefs τ sig) sub_val (V := _)) $$ [Hb Hheld]
  · isplitl [Hb]; · iexact Hb
    iexact Hheld
  iintro ⟨Hb, Hheld⟩
  rw [wp_ret]; imodintro
  iapply (wp_hlo_within 𝒱 (SparseCore.T d) none Set.univ (op := opGate) (S := ucRefs τ sig) sub_gate (V := _)) $$ [Hb Hheld]
  · isplitl [Hb]; · iexact Hb
    iexact Hheld
  iintro ⟨Hb, Hheld⟩
  rw [wp_ret]; imodintro
  ihave Hu := (Entails.of_eq (show (held (SparseCore.T d) (ucRefs τ sig) ((opGate (F := F)).result ((opVal (F := F)).result ((opCnt (F := F)).result (V2 m d)))) : sProp 𝕄) = unscopedBufs d (atRegion m d) from (Pipeline.unscopedBufs_held d (V3 m d)).symm)) $$ Hheld
  -- the region
  unfold SparseCore.Cfg.tcSt
  icases Hst with ⟨HO, Hst⟩
  rw [show (K (F := F)).Otc d ((0 : Fin 1).val + 1) = 0 from (K (F := F)).Otc_end d (le_refl 1), show (K (F := F)).Otc d 1 = 0 from (K (F := F)).Otc_end d (le_refl 1)]
  iapply (wp_region (atRegion m) _ d _)
  isplitl [Hb]; · iexact Hb
  isplitl [Hu]; · iexact Hu
  isplitl [HO]; · iexact HO
  isplitr; · iapply ((K (F := F)).ctx_levAts κ); iexact Hctx
  isplitl [HG]; · iexact HG
  iintro ⟨Hb, Hu, HO⟩
  imodintro
  isplitl [HO Hst]
  · isplitl [HO]; · iexact HO
    iexact Hst
  isplitl [Hu]; · iexact Hu
  isplitl [Hb] <;> iassumption

end Cert.KernelIdeal.Hist

end
-- ==== Proof.IdealLaunch.lean ====
/- The whole program's launch: from any launch memory whose slot numbers are in range, every run ends with the result at
   the blend of the memory with the counts, the four arguments as they were, and every semaphore at zero.
   Here for the program read at the extended reals. -/
module

public import proofs.«01_k».proof.Proof.IdealMain

@[expose] public section

noncomputable section

namespace Cert.KernelIdeal.Hist

open Cert.KernelIdeal Cert.KernelIdeal.Gen
open Idealize.ShloMosaic Idealize.ShloMosaic.ValueIdx Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element: the handshakes' rounds and the pipeline's -/

def u₀ : UU := ((initOf (K (F := F)).hsCells (K (F := F)).hsToks, initOf (Pipeline.cells cfgs cellOf_inj) (Pipeline.launchToks cfgs cellOf_inj)), 1)

omit [FloatOps F] in
theorem bigSep_emp' {I : Type} (s : Finset I) : (bigSep s fun _ => iprop(emp)) = (iprop(emp) : sProp 𝕄) := bigSep_emp_const s

omit [FloatOps F] in
theorem rounds_split (a : UH) (b : UP) : (BI.own ((embL : Emb (UH × UP) 𝕄) (a, b)) : sProp 𝕄) ⊢ iprop(BI.own (EH a) ∗ BI.own (EP b)) :=
  own_pair_emb embL a b

omit [FloatOps F] in
theorem bigSep_one (Φ : Fin 1 → sProp 𝕄) : bigSep Finset.univ Φ = Φ 0 := by
  rw [show (Finset.univ : Finset (Fin 1)) = {0} by decide, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P m).x q thr) := by
  unfold u₀
  iintro Hu
  ihave H := (ownU_pair _ _) $$ Hu
  icases H with ⟨HP, -⟩
  ihave H := (rounds_split _ _) $$ HP
  icases H with ⟨HH, HE⟩
  imod (Pipeline.fund_ghost cfgs EP cellOf_inj) $$ HE with ⟨Hg, Ht⟩
  imodintro
  isplitl [HH]; · iexact HH
  isplitl [Hg Ht]
  · unfold ghost
    rw [bigSep_sep']
    isplitl [Hg]
    · iapply (Entails.of_eq (bigSep_congr fun d _ => bigSep_one (fun p : Fin 1 => Pipeline.cellsGhost cfgs EP p d)))
      iexact Hg
    · iapply (Entails.of_eq (bigSep_congr fun d _ => bigSep_one (fun p : Fin 1 => Pipeline.toksInit cfgs EP p d)))
      iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The final memory -/

/-- Every unscoped array is at what the program leaves. -/
def fq (d : Dev nD) (s' : Phys nD τ sig (Elt F)) : Prop :=
  ∀ r : { r : Ref sig .tc // ¬ r.isScoped }, s'.mem.mem ((SparseCore.T d).loc r.1) = afterRegion (atRegion m) d r.1

theorem hfin (d : Dev nD) (s' : Phys nD τ sig (Elt F)) : iprop(FIN m d ∗ SI s') ⊢ (⌜fq m d s'⌝ : sProp 𝕄) := by
  unfold fq
  refine (forall_intro fun r => ?_).trans pure_forall.2
  iintro ⟨Hu, HSI⟩
  unfold FIN unscopedBufs
  ihave Hx := (show (bigSep (Finset.univ.filter fun b : Ref sig .tc => ¬ b.isScoped) fun b => ((SparseCore.T d).loc b ↦{fullShare} afterRegion (atRegion m) d b : sProp 𝕄)) ⊢ _ from
    bigSep_elim (Φ := fun b => ((SparseCore.T d).loc b ↦{fullShare} afterRegion (atRegion m) d b : sProp 𝕄)) (Finset.mem_filter.mpr ⟨Finset.mem_univ r.1, r.2⟩)) $$ Hu
  ihave H := (SI_pointsTo_agree (st := s') (ℓ := (SparseCore.T d).loc r.1) (I := Finset.univ) (q := fullShare) (f := afterRegion (atRegion m) d r.1)) $$ [HSI Hx]
  · isplitl [HSI] <;> iassumption
  icases H with %hx
  ipureintro; exact funext fun i => hx i (Finset.mem_univ i)

/-- Every run: the arrays at what the program leaves, the semaphores at zero. -/
theorem run_main [∀ e, Nonempty (Elt F e)] (hX : ∀ d, AllInRange (F := F) (m (iLoc d))) :
    θ_run (Cert.KernelIdeal.defs (F := F)) (Cert.KernelIdeal.threads (F := F)) ⟨m, fun _ => 0, ρ⟩ fun r =>
      (∀ (d : Dev nD) (b : { b : Ref sig .tc // ¬ b.isScoped }), r.2.mem ((SparseCore.T d).loc b.1) = afterRegion (atRegion m) d b.1) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hX)
    (fun q _ => match q with | 0 => .of_plain (vecSplit m))
    m ρ main ghost (FIN m) (u₀ (F := F)) (sep_elim_left.trans (hu₀ m)) (hmain m ρ) (fq m) (hfin m) _ (fun _ h hz => ⟨h, hz⟩)

end Cert.KernelIdeal.Hist

end
-- ==== Proof.IdealPlace.lean ====
/- Where a slot number is counted: within its block of 2048 slots, slot `128 q + r` is counted at `16 r + q`.
   Here for the program read at the extended reals. -/
module

public import proofs.«01_k».proof.Proof.IdealBody

@[expose] public section

noncomputable section

namespace Cert.KernelIdeal.Hist

open Cert.KernelIdeal Cert.KernelIdeal.Gen
open Idealize.ShloMosaic Idealize.ShloMosaic.ValueIdx

variable {F : FTy → Type} [FloatOps F]

/-- The counter of slot `s`. -/
def spot (s : ℕ) : ℕ := s / 2048 * 2048 + s % 128 * 16 + s % 2048 / 128

theorem spot_lt (s : ℕ) (h : s < 16384) : spot s < 16384 := by unfold spot; omega

theorem spot_inj (s t : ℕ) (h : spot s = spot t) : s = t := by
  have key : ∀ u, spot u / 2048 = u / 2048 ∧ spot u % 2048 / 16 = u % 128 ∧ spot u % 16 = u % 2048 / 128 := fun u => by
    have h1 : u % 2048 / 128 < 16 := by omega
    have h2 : u % 128 < 128 := by omega
    unfold spot
    generalize u % 2048 / 128 = q at *
    generalize u % 128 = r at *
    generalize u / 2048 = a at *
    omega
  have a := key s; have b := key t
  rw [h] at a
  have e : ∀ u, u = u / 2048 * 2048 + u % 2048 / 128 * 128 + u % 128 := fun u => by omega
  rw [e s, e t, ← a.1, ← a.2.1, ← a.2.2, b.1, b.2.1, b.2.2]

theorem word_spot (v : BitVec 32) (h : v.toNat < 16384) :
    ((((v.sshiftRight' 11#32) <<< 11#32) ||| ((v &&& 127#32) <<< 4#32)) ||| ((v.sshiftRight' 7#32) &&& 15#32)).toNat = spot v.toNat := by
  have hm : v.msb = false := by
    rw [BitVec.msb_eq_decide]; simp only [decide_eq_false_iff_not, not_le]; omega
  have e11 : (v.sshiftRight' 11#32).toNat = v.toNat / 2048 := by
    rw [BitVec.sshiftRight', BitVec.sshiftRight_eq_of_msb_false hm, BitVec.toNat_ushiftRight, Nat.shiftRight_eq_div_pow]; rfl
  have e7 : (v.sshiftRight' 7#32).toNat = v.toNat / 128 := by
    rw [BitVec.sshiftRight', BitVec.sshiftRight_eq_of_msb_false hm, BitVec.toNat_ushiftRight, Nat.shiftRight_eq_div_pow]; rfl
  have a : ((v.sshiftRight' 11#32) <<< 11#32).toNat = (v.toNat / 2048) <<< 11 := by
    rw [BitVec.shiftLeft_eq', BitVec.toNat_shiftLeft, e11, show (11#32 : BitVec 32).toNat = 11 from rfl, Nat.mod_eq_of_lt]
    rw [Nat.shiftLeft_eq]; omega
  have b : ((v &&& 127#32) <<< 4#32).toNat = (v.toNat % 128) <<< 4 := by
    rw [BitVec.shiftLeft_eq', BitVec.toNat_shiftLeft, BitVec.toNat_and, show (127#32 : BitVec 32).toNat = 2 ^ 7 - 1 from rfl, Nat.and_two_pow_sub_one_eq_mod,
      show (4#32 : BitVec 32).toNat = 4 from rfl, Nat.mod_eq_of_lt]
    rw [Nat.shiftLeft_eq]; omega
  have c : ((v.sshiftRight' 7#32) &&& 15#32).toNat = v.toNat / 128 % 16 := by
    rw [BitVec.toNat_and, e7, show (15#32 : BitVec 32).toNat = 2 ^ 4 - 1 from rfl, Nat.and_two_pow_sub_one_eq_mod]
  rw [BitVec.toNat_or, BitVec.toNat_or, a, b, c, Nat.or_assoc,
    ← Nat.shiftLeft_add_eq_or_of_lt (show v.toNat / 128 % 16 < 2 ^ 4 by omega), ← Nat.shiftLeft_add_eq_or_of_lt (by rw [Nat.shiftLeft_eq]; omega),
    Nat.shiftLeft_eq, Nat.shiftLeft_eq]
  unfold spot; omega

theorem place_val (v : IVec S16 32) (j : S16.Idx) (h : (v j).toNat < 16384) : (place v j).toNat = spot (v j).toNat := word_spot (v j) h

/-- Slot numbers below 16384 have their counters inside the counts. -/
theorem allInRange (X : S64x512.Idx → Elt F .i32) (h : ∀ y, (show BitVec 32 from X y).toNat < 16384) : AllInRange (F := F) X := by
  intro b n hn
  unfold k0_chk1
  intro a x
  match a with
  | ⟨0, _⟩ =>
    show (place _ x).toNat < 16384
    rw [place_val _ _ (h _)]
    exact spot_lt _ (h _)

end Cert.KernelIdeal.Hist
-- ==== Proof.IdealFinal.lean ====
/- What the program's arrays end at: the four arguments as launched, the result by its formula.
   Here for the program read at the extended reals. -/
module

public import proofs.«01_k».proof.Proof.IdealLaunch
public import proofs.«01_k».proof.Proof.IdealPlace

@[expose] public section

noncomputable section

namespace Cert.KernelIdeal.Hist

open Cert.KernelIdeal Cert.KernelIdeal.Gen
open Idealize.ShloMosaic Idealize.ShloMosaic.ValueIdx Idealize.ShloMosaic.TcCoe
open Idealize.SL.Sem

variable {F : FTy → Type} [FloatOps F]

variable (m : (ℓ : Loc nD τ sig) → Buf (Elt F) ℓ) (ρ : Dev nD → PrngReg)

theorem V2_ne (d : Dev nD) (r : DevRef τ sig) (h0 : r ≠ ref main_v0) (h1 : r ≠ ref main_cst) (h2 : r ≠ ref main_v1) : V2 m d r = m (d, r) := by
  unfold V2; rw [Function.update_of_ne h2, V1_ne m d r h0 h1]

theorem V3_ne (d : Dev nD) (r : DevRef τ sig) (h : r ∉ ({ref main_v2, ref main_v3, ref main_v4} : Finset (DevRef τ sig))) : V3 m d r = V2 m d r := by
  simp only [Finset.mem_insert, Finset.mem_singleton, not_or] at h
  unfold V3
  rw [(opGate (F := F)).result_of_not_mem _ (b := r) (fun e => h.2.2 (Finset.mem_singleton.mp e)),
    (opVal (F := F)).result_of_not_mem _ (b := r) (fun e => h.2.1 (Finset.mem_singleton.mp e)),
    (opCnt (F := F)).result_of_not_mem _ (b := r) (fun e => h.1 (Finset.mem_singleton.mp e))]

theorem atRegion_arg (d : Dev nD) (r : Ref sig .tc) (h : ref r ∉ ({ref main_v2, ref main_v3, ref main_v4} : Finset (DevRef τ sig)))
    (h0 : ref r ≠ ref main_v0) (h1 : ref r ≠ ref main_cst) (h2 : ref r ≠ ref main_v1) : atRegion m d r = m (d, ref r) :=
  (V3_ne m d (ref r) h).trans (V2_ne m d (ref r) h0 h1 h2)

theorem end_arg0 (d : Dev nD) : afterRegion (atRegion m) d main_arg0 = m ((SparseCore.T d).loc main_arg0) :=
  (afterRegion_ne (atRegion m) d main_arg0 (by decide)).trans (atRegion_arg m d main_arg0 (by decide) (by decide) (by decide) (by decide))
theorem end_arg1 (d : Dev nD) : afterRegion (atRegion m) d main_arg1 = m ((SparseCore.T d).loc main_arg1) :=
  (afterRegion_ne (atRegion m) d main_arg1 (by decide)).trans (atRegion_arg m d main_arg1 (by decide) (by decide) (by decide) (by decide))
theorem end_arg2 (d : Dev nD) : afterRegion (atRegion m) d main_arg2 = m ((SparseCore.T d).loc main_arg2) :=
  (afterRegion_ne (atRegion m) d main_arg2 (by decide)).trans (atRegion_arg m d main_arg2 (by decide) (by decide) (by decide) (by decide))
theorem end_arg3 (d : Dev nD) : afterRegion (atRegion m) d main_arg3 = m ((SparseCore.T d).loc main_arg3) :=
  (afterRegion_ne (atRegion m) d main_arg3 (by decide)).trans (atRegion_arg m d main_arg3 (by decide) (by decide) (by decide) (by decide))

/-- The run, read at the result and the arguments. -/
theorem run_arrays [∀ e, Nonempty (Elt F e)] (hX : ∀ d, AllInRange (F := F) (m (iLoc d))) :
    θ_run (Cert.KernelIdeal.defs (F := F)) (Cert.KernelIdeal.threads (F := F)) ⟨m, fun _ => 0, ρ⟩ fun r =>
      (∀ d : Dev nD, r.2.mem ((SparseCore.T d).loc main_v5) = result (atRegion m) d
        ∧ r.2.mem ((SparseCore.T d).loc main_arg0) = m ((SparseCore.T d).loc main_arg0)
        ∧ r.2.mem ((SparseCore.T d).loc main_arg1) = m ((SparseCore.T d).loc main_arg1)
        ∧ r.2.mem ((SparseCore.T d).loc main_arg2) = m ((SparseCore.T d).loc main_arg2)
        ∧ r.2.mem ((SparseCore.T d).loc main_arg3) = m ((SparseCore.T d).loc main_arg3)) ∧ r.2.sem = fun _ => 0 :=
  (θ_run Cert.KernelIdeal.defs _ _).mono
    (fun r h => ⟨fun d => ⟨(h.1 d ⟨main_v5, by decide⟩).trans (afterRegion_out (atRegion m) d),
      (h.1 d ⟨main_arg0, by decide⟩).trans (end_arg0 m d), (h.1 d ⟨main_arg1, by decide⟩).trans (end_arg1 m d),
      (h.1 d ⟨main_arg2, by decide⟩).trans (end_arg2 m d), (h.1 d ⟨main_arg3, by decide⟩).trans (end_arg3 m d)⟩, h.2⟩)
    (run_main m ρ hX)

/-! ## The result's formula -/

theorem not_written {x y : DevRef τ sig} (h : y ≠ x) : y ∉ ({x} : Finset (DevRef τ sig)) := fun e => h (Finset.mem_singleton.mp e)

theorem V3_v4 (d : Dev nD) (b : Fin 64) : V3 m d (ref main_v4) (ix3 b 0 0) = m ((SparseCore.T d).loc main_arg3) (ix2 b 0) := by
  unfold V3
  rw [StableHlo.reshape_result]
  refine (shapeCast_apply _ _ (ix3 b 0 0) (ix2 b 0) ?_).trans ?_
  · show (S64x1.rowMajor _).val = (S64x1x1.rowMajor _).val
    rw [Shape.rowMajor_val_two, Shape.rowMajor_val_three]
    show b.val * 1 + 0 = (b.val * 1 + 0) * 1 + 0
    omega
  · rw [(opVal (F := F)).result_of_not_mem _ (b := ref main_arg3) (not_written (by decide)), (opCnt (F := F)).result_of_not_mem _ (b := ref main_arg3) (not_written (by decide)),
      V2_ne m d (ref main_arg3) (by decide) (by decide) (by decide)]

theorem V3_v3 (d : Dev nD) (b e : Fin 64) : V3 m d (ref main_v3) (ix3 b 0 e) = m ((SparseCore.T d).loc main_arg2) (ix2 b e) := by
  unfold V3
  rw [(opGate (F := F)).result_of_not_mem _ (b := ref main_v3) (not_written (by decide)), StableHlo.reshape_result]
  refine (shapeCast_apply _ _ (ix3 b 0 e) (ix2 b e) ?_).trans ?_
  · show (S64x64.rowMajor _).val = (S64x1x64.rowMajor _).val
    rw [Shape.rowMajor_val_two, Shape.rowMajor_val_three]
    show b.val * 64 + e.val = (b.val * 1 + 0) * 64 + e.val
    omega
  · rw [(opCnt (F := F)).result_of_not_mem _ (b := ref main_arg2) (not_written (by decide)), V2_ne m d (ref main_arg2) (by decide) (by decide) (by decide)]

theorem V3_v2 (d : Dev nD) (b : Fin 64) (s : ℕ) (hs : s < 16384) :
    V3 m d (ref main_v2) (ix3 ⟨8 * b.val + s / 2048, by omega⟩ ⟨s % 128, by omega⟩ ⟨s % 2048 / 128, by omega⟩)
      = counts m d (ix2 b ⟨spot s, spot_lt s hs⟩) := by
  unfold V3
  rw [(opGate (F := F)).result_of_not_mem _ (b := ref main_v2) (not_written (by decide)), (opVal (F := F)).result_of_not_mem _ (b := ref main_v2) (not_written (by decide)),
    StableHlo.reshape_result]
  refine (shapeCast_apply _ _ _ (ix2 b ⟨spot s, spot_lt s hs⟩) ?_).trans ?_
  · show (S64x16384.rowMajor _).val = (S512x128x16.rowMajor _).val
    rw [Shape.rowMajor_val_two, Shape.rowMajor_val_three]
    show b.val * 16384 + spot s = ((8 * b.val + s / 2048) * 128 + s % 128) * 16 + s % 2048 / 128
    unfold spot; omega
  · show V2 m d (ref main_v1) _ = _
    unfold V2
    rw [Function.update_self]

/-- The result: the memory kept by its factor, plus the slot's count times the gated content. -/
def answer (d : Dev nD) : S64x16384x64.Idx → Elt F .f32 := fun y =>
  FloatOps.addf (FloatOps.mulf (m ((SparseCore.T d).loc main_arg0) y) (Scalar.ofBits .f32 0x3F733333#32))
    (FloatOps.mulf (counts m d (ix2 ⟨(y 0).val, (y 0).isLt⟩ ⟨spot (y 1).val, spot_lt _ (y 1).isLt⟩))
      (FloatOps.mulf (m ((SparseCore.T d).loc main_arg2) (ix2 ⟨(y 0).val, (y 0).isLt⟩ ⟨(y 2).val, (y 2).isLt⟩))
        (m ((SparseCore.T d).loc main_arg3) (ix2 ⟨(y 0).val, (y 0).isLt⟩ 0))))

theorem result_eq (d : Dev nD) : result (atRegion m) d = answer m d := by
  funext y
  have e0 : atRegion m d main_arg0 = m ((SparseCore.T d).loc main_arg0) := atRegion_arg m d main_arg0 (by decide) (by decide) (by decide) (by decide)
  have e2 := V3_v2 m d ⟨(y 0).val, (y 0).isLt⟩ (y 1).val (y 1).isLt
  have e3 := V3_v3 m d ⟨(y 0).val, (y 0).isLt⟩ ⟨(y 2).val, (y 2).isLt⟩
  have e4 := V3_v4 m d ⟨(y 0).val, (y 0).isLt⟩
  show FloatOps.addf (FloatOps.mulf (atRegion m d main_arg0 y) _) (FloatOps.mulf (V3 m d (ref main_v2) (ix3 _ _ _))
    (FloatOps.mulf (V3 m d (ref main_v3) (ix3 _ _ _)) (V3 m d (ref main_v4) (ix3 _ _ _)))) = _
  rw [e0]
  exact congrArg (FloatOps.addf _) (congr (congrArg FloatOps.mulf e2) (congr (congrArg FloatOps.mulf e3) e4))

end Cert.KernelIdeal.Hist
-- ==== Proof.Range.lean ====
/- What the precondition says: every slot number lies between 0 and 16383. -/
module

public import proofs.«01_k».proof.Pre_in_range
public import proofs.«01_k».proof.Proof.Gen.Pre_in_range
public import Idealize.ShloMosaic.Lib.ReduceAll

@[expose] public section

namespace Cert.SlotRange

open Idealize.ShloMosaic Cert.Pre_in_range

attribute [local instance] Cert.Pre_in_range.Gen.facts

variable {F : FTy → Type} [FloatOps F]

theorem bound_of_word (v : BitVec 32) (h0 : IntOp.cmpi .sge v 0#32 = 1#1) (h1 : IntOp.cmpi .slt v 16384#32 = 1#1) : v.toNat < 16384 := by
  have one (p : Bool) : (BitVec.ofBool p = 1#1) ↔ p = true := by cases p <;> decide
  simp only [IntOp.cmpi, one, BitVec.sle, BitVec.slt, decide_eq_true_eq] at h0 h1
  have hv := v.isLt
  rw [show (16384#32 : BitVec 32).toInt = 16384 from rfl] at h1
  rw [show (0#32 : BitVec 32).toInt = 0 from rfl] at h0
  simp only [BitVec.toInt] at h0 h1
  split at h0 <;> omega

/-- Under the precondition every slot number, read as a natural number, is below 16384. -/
theorem slot_lt (x0 : FVec F S64x16384x64 .f32) (x1 : IVec S64x512 32) (x2 : FVec F S64x64 .f32) (x3 : FVec F S64x1 .f32)
    (h : Cert.Pre_in_range.fn (F := F) x0 x1 x2 x3 = fun _ => 1#1) (y : S64x512.Idx) : (x1 y).toNat < 16384 := by
  haveI : Subsingleton S_.Idx := ⟨fun a b => funext fun i => i.elim0⟩
  have e := Host.reduce_andi_all _ _ _ _ _ (congrFun h fun i => i.elim0) y
  obtain ⟨e0, e1⟩ := IntOp.andi_eq_one.1 e
  exact bound_of_word _ e0 e1

end Cert.SlotRange
-- ==== Proof.Tally.lean ====
/- The counts over the extended reals: after the counting, a slot's counter holds the number of slot numbers equal to it. -/
module

public import proofs.«01_k».proof.Proof.IdealPlace
public import proofs.«01_k».proof.Proof.IdealDeal
public import Idealize.ShloMosaic.PureOps.Ideal
public import Idealize.ShloMosaic.PureOps.Ideal.Laws
public import Idealize.ShloMosaic.Lib.IdealHost

@[expose] public section

noncomputable section

namespace Cert.KernelIdeal.Hist

open Cert.KernelIdeal Cert.KernelIdeal.Gen
open Idealize.ShloMosaic Idealize.ShloMosaic.ValueIdx
open scoped BigOperators

/-- One where word `v` is the number `s`, else zero. -/
def one? (v : BitVec 32) (s : ℕ) : EReal := if v.toNat = s then 1 else 0

/-- A fold of steps, each adding one at the element it names, read at one element. -/
theorem fold_hits {κ β : Type} (p : κ → β) (H : κ → β → Prop) [∀ k j, Decidable (H k j)] (hH : ∀ k j, H k j → j = p k)
    (step : (β → EReal) → κ → β → EReal) (hstep : ∀ g k j, step g k j = if H k j then g (p k) + 1 else g j) (j : β) :
    ∀ (l : List κ) (g : β → EReal), l.foldl step g j = g j + (l.map fun k => if H k j then (1 : EReal) else 0).sum
  | [], g => by simp
  | k :: l, g => by
    rw [List.foldl_cons, fold_hits p H hH step hstep j l, List.map_cons, List.sum_cons, hstep]
    by_cases h : H k j
    · rw [if_pos h, if_pos h, ← hH k j h, add_assoc]
    · rw [if_neg h, if_neg h, zero_add]

theorem eq_of_vals (i j : S16384.Idx) (h : ∀ a, (j a).val = (i a).val) : j = i := funext fun a => Fin.ext (h a)

theorem ones_eq (k : S16.Idx) : (ones (F := Ideal) k : EReal) = 1 := Ideal.ofBits_one_f32

theorem bump_at (x : IBuf Ideal) (hx : ∀ w, (show BitVec 32 from x w).toNat < 16384) (n : ℕ) (h : n < 32) (g : CBuf Ideal) (s : ℕ) (hs : s < 16384) :
    bump (F := Ideal) x n h g (ix1 ⟨spot s, spot_lt s hs⟩)
      = (show EReal from g (ix1 ⟨spot s, spot_lt s hs⟩)) + ∑ k : Fin 16, one? (x (ix1 ⟨16 * n + k.val, by omega⟩)) s := by
  have hg : ∀ j, (grp (F := Ideal) x n h j).toNat < 16384 := fun j => hx _
  have hw : k0_chk1 (place (grp (F := Ideal) x n h)) := by
    unfold k0_chk1
    intro a j
    match a with
    | ⟨0, _⟩ =>
      show (place _ j).toNat < 16384
      rw [place_val _ _ (hg j)]
      exact spot_lt _ (hg j)
  have hp : ∀ j : S16.Idx, (idxAt ![place (grp (F := Ideal) x n h)] (k0_idx1_inb _ hw) j : S16384.Idx) = ix1 ⟨spot (grp (F := Ideal) x n h j).toNat, spot_lt _ (hg j)⟩ :=
    fun j => funext fun a => match a with
      | ⟨0, _⟩ => Fin.ext (place_val _ j (hg j))
  unfold bump
  rw [dif_pos hw]
  unfold storeIdx
  refine (fold_hits (κ := Fin 16) (β := S16384.Idx) (fun k => idxAt ![place (grp (F := Ideal) x n h)] (k0_idx1_inb _ hw) (Shape.ofLane k))
    (fun k j => ∀ a, (j a).val = (idxAt ![place (grp (F := Ideal) x n h)] (k0_idx1_inb _ hw) (Shape.ofLane k) a).val)
    (fun k j hkj => eq_of_vals _ _ hkj) _ (fun g k j => ?_) _ (List.finRange 16) g).trans ?_
  · refine (congrFun (if_pos rfl) j).trans ?_
    by_cases hk : ∀ a, (j a).val = (idxAt ![place (grp (F := Ideal) x n h)] (k0_idx1_inb _ hw) (Shape.ofLane k) a).val
    · exact (if_pos hk).trans ((congrArg (g _ + ·) (ones_eq _)).trans (if_pos hk).symm)
    · exact (if_neg hk).trans (if_neg hk).symm
  · refine congrArg (g _ + ·) ?_
    rw [← List.ofFn_eq_map, List.sum_ofFn]
    refine Finset.sum_congr rfl fun k _ => ?_
    have e : grp (F := Ideal) x n h (Shape.ofLane k) = x (ix1 ⟨16 * n + k.val, by omega⟩) := by
      unfold grp
      refine congrArg x (funext fun a => ?_)
      match a with
      | ⟨0, _⟩ => exact Fin.ext (by show 16 * n + 1 * k.val = _; simp [ix1])
    unfold one?
    rw [← e]
    refine if_congr ?_ rfl rfl
    rw [hp]
    constructor
    · intro q; exact (spot_inj _ _ (q 0)).symm
    · intro q a
      match a with
      | ⟨0, _⟩ => exact congrArg spot q.symm

/-- The counting's last `k` groups, read at the counter of slot `s`. -/
theorem bumps_at (x : IBuf Ideal) (hx : ∀ w, (show BitVec 32 from x w).toNat < 16384) (s : ℕ) (hs : s < 16384) :
    ∀ (k : ℕ) (h : k ≤ 32) (g : CBuf Ideal),
      bumps (F := Ideal) x k h g (ix1 ⟨spot s, spot_lt s hs⟩)
        = (show EReal from g (ix1 ⟨spot s, spot_lt s hs⟩))
          + ∑ i : Fin k, ∑ l : Fin 16, one? (x (ix1 ⟨16 * (32 - k + i.val) + l.val, by omega⟩)) s
  | 0, _, g => by
    show g _ = _
    simp
  | k + 1, h, g => by
    show bumps (F := Ideal) x k _ (bump (F := Ideal) x (31 - k) _ g) _ = _
    rw [bumps_at x hx s hs k _ _, bump_at x hx (31 - k) _ g s hs, Fin.sum_univ_succ (n := k)]
    refine (add_assoc _ _ _).trans (congrArg (g _ + ·) (congr (congrArg HAdd.hAdd ?_) ?_))
    · refine Finset.sum_congr rfl fun l _ => ?_
      refine congrArg (fun i => one? (x i) s) (congrArg ix1 (Fin.ext ?_))
      show 16 * (31 - k) + l.val = 16 * (32 - (k + 1) + 0) + l.val
      omega
    · refine Finset.sum_congr rfl fun i _ => Finset.sum_congr rfl fun l _ => ?_
      refine congrArg (fun i => one? (x i) s) (congrArg ix1 (Fin.ext ?_))
      show 16 * (32 - k + i.val) + l.val = 16 * (32 - (k + 1) + (i.val + 1)) + l.val
      omega

/-- The finished counter of slot `s`: how many of the 512 slot numbers are `s`. -/
theorem tally (x : IBuf Ideal) (hx : ∀ w, (show BitVec 32 from x w).toNat < 16384) (s : ℕ) (hs : s < 16384) :
    bumps (F := Ideal) x 32 (Nat.le_refl _) (zeros (F := Ideal)) (ix1 ⟨spot s, spot_lt s hs⟩) = ∑ w : Fin 512, one? (x (ix1 w)) s := by
  rw [bumps_at x hx s hs 32 _ _]
  have z : (zeros (F := Ideal) (ix1 ⟨spot s, spot_lt s hs⟩) : EReal) = 0 := Ideal.ofBits_zero_f32
  refine (congrArg (· + _) z).trans ((zero_add _).trans ?_)
  rw [← Fintype.sum_prod_type' (f := fun (i : Fin 32) (l : Fin 16) => one? (x (ix1 ⟨16 * (32 - 32 + i.val) + l.val, by omega⟩)) s)]
  refine Fintype.sum_equiv (finProdFinEquiv (m := 32) (n := 16)) _ _ fun q => ?_
  refine congrArg (fun i => one? (x i) s) (congrArg ix1 (Fin.ext ?_))
  show 16 * (32 - 32 + q.1.val) + q.2.val = q.2.val + 16 * q.1.val
  omega

/-- A sum of ones and zeros, times a value: the sum of the value where there is a one. -/
theorem tally_mul {ι : Type} (t : Finset ι) (f : ι → BitVec 32) (s : ℕ) (v : EReal) :
    (∑ w ∈ t, one? (f w) s) * v = ∑ w ∈ t, if (f w).toNat = s then v else 0 := by
  classical
  have nn : ∀ w, 0 ≤ one? (f w) s := fun w => by unfold one?; split <;> simp
  induction t using Finset.induction_on with
  | empty => simp
  | insert a t ha ih =>
    rw [Finset.sum_insert ha, Finset.sum_insert ha, EReal.right_distrib_of_nonneg (nn a) (Finset.sum_nonneg fun w _ => nn w), ih]
    refine congrArg (· + _) ?_
    unfold one?
    split <;> simp

end Cert.KernelIdeal.Hist
-- ==== Proof.Lands.lean ====
/- The reference read at one element: the memory kept by its factor, plus one gated content for every slot number of
   the batch that names the slot. -/
module

public import proofs.«01_k».proof.ReferenceIdeal
public import proofs.«01_k».proof.Proof.Gen.ReferenceIdeal
public import Idealize.ShloMosaic.PureOps.Ideal
public import Idealize.ShloMosaic.PureOps.Ideal.Laws
public import Idealize.ShloMosaic.Lib.IdealHost
public import Idealize.ShloMosaic.Lib.Routing.OpsPair
public import Idealize.ShloMosaic.Lib.Pipeline.Value
public import Idealize.ShloMosaic.Lib.ValueIdxCore

@[expose] public section

noncomputable section

namespace Cert.ReferenceIdeal.Sum

open Cert.ReferenceIdeal Cert.ReferenceIdeal.Gen
open Idealize.ShloMosaic Idealize.ShloMosaic.ValueIdx
open scoped BigOperators

attribute [local instance] Cert.ReferenceIdeal.Gen.facts

abbrev sd : ScatterDims S64x16384x64 S64x512x2 S64x512x64 := scatter_S64x16384x64_S64x512x2_S64x512x64_2_01_01_2

theorem start_0 (idx : IVec S64x512x2 32) (a : Fin 64) (w : Fin 512) (e : Fin 64) : sd.start (ix3 a w e) idx 0 = (idx (ix3 a w 0)).toInt := by
  have hm : (0 : Fin 3) ∈ sd.scatterDimsToOperandDims := by decide
  unfold ScatterDims.start
  rw [dif_pos hm]
  refine congrArg (fun q => (idx q).toInt) (funext fun c => Fin.ext ?_)
  match c with
  | ⟨0, _⟩ => rfl
  | ⟨1, _⟩ => rfl
  | ⟨2, _⟩ => rfl

theorem start_1 (idx : IVec S64x512x2 32) (a : Fin 64) (w : Fin 512) (e : Fin 64) : sd.start (ix3 a w e) idx 1 = (idx (ix3 a w 1)).toInt := by
  have hm : (1 : Fin 3) ∈ sd.scatterDimsToOperandDims := by decide
  unfold ScatterDims.start
  rw [dif_pos hm]
  refine congrArg (fun q => (idx q).toInt) (funext fun c => Fin.ext ?_)
  match c with
  | ⟨0, _⟩ => rfl
  | ⟨1, _⟩ => rfl
  | ⟨2, _⟩ => rfl

theorem start_2 (idx : IVec S64x512x2 32) (a : Fin 64) (w : Fin 512) (e : Fin 64) : sd.start (ix3 a w e) idx 2 = 0 := by
  unfold ScatterDims.start
  rw [dif_neg (by decide)]

theorem window_0 (a : Fin 64) (w : Fin 512) (e : Fin 64) : sd.window (ix3 a w e) 0 = 0 := by
  unfold ScatterDims.window
  rw [dif_neg (by decide)]
theorem window_1 (a : Fin 64) (w : Fin 512) (e : Fin 64) : sd.window (ix3 a w e) 1 = 0 := by
  unfold ScatterDims.window
  rw [dif_neg (by decide)]
theorem window_2 (a : Fin 64) (w : Fin 512) (e : Fin 64) : sd.window (ix3 a w e) 2 = e.val := by
  unfold ScatterDims.window
  rw [dif_pos (by decide)]
  rfl

/-- Update `(a, w, e)` lands at `(b, s, f)` exactly when its two index words are `b` and `s` and its column is `f`. -/
theorem lands (idx : IVec S64x512x2 32) (a : Fin 64) (w : Fin 512) (e b : Fin 64) (s : Fin 16384) (f : Fin 64) :
    sd.resultIdx? (ix3 a w e) idx = some (ix3 b s f) ↔ (idx (ix3 a w 0)).toInt = b.val ∧ (idx (ix3 a w 1)).toInt = s.val ∧ e = f := by
  rw [Routing.resultIdx?_eq_some]
  constructor
  · intro h
    have h0 := h 0; have h1 := h 1; have h2 := h 2
    rw [start_0, window_0] at h0
    rw [start_1, window_1] at h1
    rw [start_2, window_2] at h2
    change _ = ((b.val : ℕ) : ℤ) at h0
    change _ = ((s.val : ℕ) : ℤ) at h1
    change _ = ((f.val : ℕ) : ℤ) at h2
    exact ⟨by omega, by omega, Fin.ext (by omega)⟩
  · rintro ⟨h0, h1, rfl⟩ c
    match c with
    | ⟨0, _⟩ => show sd.start _ idx 0 + (sd.window _ 0 : ℕ) = ((b.val : ℕ) : ℤ); rw [start_0, window_0]; omega
    | ⟨1, _⟩ => show sd.start _ idx 1 + (sd.window _ 1 : ℕ) = ((s.val : ℕ) : ℤ); rw [start_1, window_1]; omega
    | ⟨2, _⟩ => show sd.start _ idx 2 + (sd.window _ 2 : ℕ) = ((e.val : ℕ) : ℤ); rw [start_2, window_2]; omega

/-- The scatter of updates that depend on batch and column alone, its index words the batch and the slot number. -/
theorem scatter_sum (x : S64x16384x64.Idx → EReal) (idx : IVec S64x512x2 32) (upd : S64x512x64.Idx → EReal) (n : Fin 64 → Fin 512 → BitVec 32) (v : Fin 64 → Fin 64 → EReal)
    (h0 : ∀ a w, (idx (ix3 a w 0)).toInt = a.val) (h1 : ∀ a w, (idx (ix3 a w 1)).toInt = ((n a w).toNat : ℤ)) (hu : ∀ a w e, upd (ix3 a w e) = v a e)
    (b : Fin 64) (s : Fin 16384) (f : Fin 64) :
    Ideal.hostScatterAdd sd x idx upd (ix3 b s f) = x (ix3 b s f) + ∑ w : Fin 512, if (n b w).toNat = s.val then v b f else 0 := by
  unfold Ideal.hostScatterAdd
  refine congrArg (_ + ·) ?_
  rw [← Finset.sum_filter]
  symm
  refine Finset.sum_bij (fun w _ => ix3 b w f) (fun w hw => ?_) (fun w _ w' _ e => ?_) (fun j hj => ?_) (fun w _ => (hu b w f).symm)
  · rw [Finset.mem_filter] at hw ⊢
    exact ⟨Finset.mem_univ _, (lands idx b w f b s f).2 ⟨h0 b w, by rw [h1, hw.2], rfl⟩⟩
  · exact congrFun e 1
  · rw [Finset.mem_filter] at hj
    obtain ⟨a, w, e, rfl⟩ : ∃ (a : Fin 64) (w : Fin 512) (e : Fin 64), j = ix3 a w e := ⟨j 0, j 1, j 2, eq_ix3 j⟩
    obtain ⟨e0, e1, rfl⟩ := (lands idx a w e b s f).1 hj.2
    rw [h0] at e0
    rw [h1] at e1
    obtain rfl : a = b := Fin.ext (by exact_mod_cast e0)
    exact ⟨w, by rw [Finset.mem_filter]; exact ⟨Finset.mem_univ _, by exact_mod_cast e1⟩, rfl⟩

end Cert.ReferenceIdeal.Sum
-- ==== Proof.Equation.lean ====
/- The kernel's result and the reference's are the same array over the extended reals, when every slot number is in range. -/
module

public import proofs.«01_k».proof.Proof.Tally
public import proofs.«01_k».proof.Proof.Lands
public import proofs.«01_k».proof.Proof.IdealFinal

@[expose] public section

noncomputable section

namespace Cert.ReferenceIdeal.Sum

open Cert.ReferenceIdeal Cert.ReferenceIdeal.Gen
open Idealize.ShloMosaic Idealize.ShloMosaic.ValueIdx
open scoped BigOperators

attribute [local instance] Cert.ReferenceIdeal.Gen.facts

/-- The batch numbers, as the reference's batch column. -/
abbrev batchCol : IVec S64x1 32 := broadcastInDim S64x1 ![0] bcast_S64_S64x1_0 (iotaInDim S64 32 0)

/-- The batch half of the reference's index words. -/
def batchWords : IVec S64x512x1 32 :=
  broadcastInDim S64x512x1 ![0, 1] bcast_S64x512_S64x512x1_0_1 (broadcastInDim S64x512 ![0, 1] bcast_S64x1_S64x512_0_1
    (select (cmpi .slt batchCol (broadcastInDim S64x1 ![] bcast_S_S64x1 (constantI S_ 32 0#32)))
      (addi batchCol (broadcastInDim S64x1 ![] bcast_S_S64x1 (constantI S_ 32 64#32))) batchCol))

/-- The slot half of the reference's index words. -/
def slotWords (x1 : IVec S64x512 32) : IVec S64x512x1 32 :=
  broadcastInDim S64x512x1 ![0, 1] bcast_S64x512_S64x512x1_0_1
    (select (cmpi .slt x1 (broadcastInDim S64x512 ![] bcast_S_S64x512 (constantI S_ 32 0#32)))
      (addi x1 (broadcastInDim S64x512 ![] bcast_S_S64x512 (constantI S_ 32 16384#32))) x1)

/-- The reference's index words: the batch beside the slot number. -/
def words (x1 : IVec S64x512 32) : IVec S64x512x2 32 :=
  concatenate S64x512x2 2 [⟨S64x512x1, batchWords⟩, ⟨S64x512x1, slotWords x1⟩] concatenates_S64x512x1_S64x512x1_S64x512x2_d2

/-- The reference's kept memory. -/
def kept (x0 : FVec Ideal S64x16384x64 .f32) : FVec Ideal S64x16384x64 .f32 :=
  mulf x0 (broadcastInDim S64x16384x64 ![] bcast_S_S64x16384x64 (constant S_ .f32 0x3F733333#32))

/-- The reference's updates: the gated content, the same for every slot number of a batch. -/
def updates (x2 : FVec Ideal S64x64 .f32) (x3 : FVec Ideal S64x1 .f32) : FVec Ideal S64x512x64 .f32 :=
  broadcastInDim S64x512x64 ![0, 1, 2] bcast_S64x1x64_S64x512x64_0_1_2 (broadcastInDim S64x1x64 ![0, 2] bcast_S64x64_S64x1x64_0_2
    (mulf x2 (broadcastInDim S64x64 ![0, 1] bcast_S64x1_S64x64_0_1 x3)))

/-- The reference's result as a term of its arguments. -/
def total (x0 : FVec Ideal S64x16384x64 .f32) (x1 : IVec S64x512 32) (x2 : FVec Ideal S64x64 .f32) (x3 : FVec Ideal S64x1 .f32) :
    FVec Ideal S64x16384x64 .f32 :=
  Host.scatterAdd sd (kept x0) (words x1) (updates x2 x3)

theorem batchWords_at (a : Fin 64) (w : Fin 512) : batchWords (ix3 a w 0) = BitVec.ofNat 32 a.val := by
  unfold batchWords
  rw [broadcastInDim_apply _ _ _ (ix3 a w 0) (ix2 a w) (fun c => by match c with | ⟨0, _⟩ => rfl | ⟨1, _⟩ => rfl),
    broadcastInDim_apply _ _ _ (ix2 a w) (ix2 a (0 : Fin 1)) (fun c => by match c with | ⟨0, _⟩ => rfl | ⟨1, _⟩ => rfl)]
  have e : batchCol (ix2 a (0 : Fin 1)) = BitVec.ofNat 32 a.val := rfl
  refine (Routing.wrap_of_lt (batchCol (ix2 a (0 : Fin 1))) _ ?_).trans e
  rw [e, BitVec.toNat_ofNat]
  have := a.isLt
  omega

theorem slotWords_at (x1 : IVec S64x512 32) (hx : ∀ y, (x1 y).toNat < 16384) (a : Fin 64) (w : Fin 512) : slotWords x1 (ix3 a w 0) = x1 (ix2 a w) := by
  unfold slotWords
  rw [broadcastInDim_apply _ _ _ (ix3 a w 0) (ix2 a w) (fun c => by match c with | ⟨0, _⟩ => rfl | ⟨1, _⟩ => rfl)]
  exact Routing.wrap_of_lt (x1 (ix2 a w)) _ (by have := hx (ix2 a w); omega)

theorem words_0 (x1 : IVec S64x512 32) (a : Fin 64) (w : Fin 512) : (words x1 (ix3 a w 0)).toInt = a.val := by
  have e : words x1 (ix3 a w 0) = batchWords (ix3 a w 0) :=
    concatenate_pair_apply_left 2 _ _ concatenates_S64x512x1_S64x512x1_S64x512x2_d2 (ix3 a w 0) rfl (ix3 a w 0)
      (fun c => by match c with | ⟨0, _⟩ => rfl | ⟨1, _⟩ => rfl | ⟨2, _⟩ => rfl)
  have ha := a.isLt
  rw [e, batchWords_at, BitVec.toInt_eq_toNat_cond, BitVec.toNat_ofNat, Nat.mod_eq_of_lt (by omega), if_pos (by omega)]

theorem words_1 (x1 : IVec S64x512 32) (hx : ∀ y, (x1 y).toNat < 16384) (a : Fin 64) (w : Fin 512) :
    (words x1 (ix3 a w 1)).toInt = ((x1 (ix2 a w)).toNat : ℤ) := by
  have e : words x1 (ix3 a w 1) = slotWords x1 (ix3 a w 0) :=
    concatenate_pair_apply_right 2 _ _ concatenates_S64x512x1_S64x512x1_S64x512x2_d2 (ix3 a w 1) rfl rfl (ix3 a w 0)
      (fun c h => by match c with | ⟨0, _⟩ => rfl | ⟨1, _⟩ => rfl | ⟨2, _⟩ => exact absurd rfl h) rfl
  rw [e, slotWords_at x1 hx, BitVec.toInt_eq_toNat_cond, if_pos (by have := hx (ix2 a w); omega)]

theorem updates_at (x2 : FVec Ideal S64x64 .f32) (x3 : FVec Ideal S64x1 .f32) (a : Fin 64) (w : Fin 512) (e : Fin 64) :
    updates x2 x3 (ix3 a w e) = (FloatOps.mulf (x2 (ix2 a e)) (x3 (ix2 a 0)) : Ideal .f32) := by
  unfold updates
  rw [broadcastInDim_apply _ _ _ (ix3 a w e) (ix3 a (0 : Fin 1) e) (fun c => by match c with | ⟨0, _⟩ => rfl | ⟨1, _⟩ => rfl | ⟨2, _⟩ => rfl),
    broadcastInDim_apply _ _ _ (ix3 a (0 : Fin 1) e) (ix2 a e) (fun c => by match c with | ⟨0, _⟩ => rfl | ⟨1, _⟩ => rfl)]
  exact congrArg (FloatOps.mulf (x2 (ix2 a e)))
    (broadcastInDim_apply _ _ x3 (ix2 a e) (ix2 a (0 : Fin 1)) (fun c => by match c with | ⟨0, _⟩ => rfl | ⟨1, _⟩ => rfl))

/-- The reference's result at one element. -/
theorem total_at (x0 : FVec Ideal S64x16384x64 .f32) (x1 : IVec S64x512 32) (x2 : FVec Ideal S64x64 .f32) (x3 : FVec Ideal S64x1 .f32)
    (hx : ∀ y, (x1 y).toNat < 16384) (b : Fin 64) (s : Fin 16384) (f : Fin 64) :
    (total x0 x1 x2 x3 (ix3 b s f) : EReal) = (FloatOps.mulf (x0 (ix3 b s f)) (Scalar.ofBits .f32 0x3F733333#32) : Ideal .f32)
      + ∑ w : Fin 512, if (x1 (ix2 b w)).toNat = s.val then ((FloatOps.mulf (x2 (ix2 b f)) (x3 (ix2 b 0)) : Ideal .f32) : EReal) else 0 := by
  refine Eq.trans ?_ (scatter_sum (kept x0) (words x1) (updates x2 x3) (fun a w => x1 (ix2 a w))
    (fun a e => (FloatOps.mulf (x2 (ix2 a e)) (x3 (ix2 a 0)) : Ideal .f32)) (words_0 x1) (words_1 x1 hx) (updates_at x2 x3) b s f)
  exact congrFun (Ideal.hostScatterAdd_def ..) _

end Cert.ReferenceIdeal.Sum

namespace Cert.KernelIdeal.Hist

open Cert.KernelIdeal Cert.KernelIdeal.Gen
open Idealize.ShloMosaic Idealize.ShloMosaic.ValueIdx Idealize.ShloMosaic.TcCoe
open scoped BigOperators

variable (m : (ℓ : Loc nD τ sig) → Buf (Elt Ideal) ℓ)

/-- The kernel's count of a slot is the number of the batch's slot numbers that name it. -/
theorem counts_at (d : Dev nD) (hx : ∀ y, (show BitVec 32 from m (iLoc d) y).toNat < 16384) (b : Fin 64) (s : ℕ) (hs : s < 16384) :
    (counts m d (ix2 b ⟨spot s, spot_lt s hs⟩) : EReal) = ∑ w : Fin 512, one? (m (iLoc d) (ix2 b w)) s :=
  tally (slots (F := Ideal) (m (iLoc d)) b) (fun w => hx _) s hs

/-- The kernel's result is the reference's. -/
theorem answer_total (d : Dev nD) (hx : ∀ y, (show BitVec 32 from m (iLoc d) y).toNat < 16384) :
    answer m d = Cert.ReferenceIdeal.Sum.total (m ((SparseCore.T d).loc main_arg0)) (m ((SparseCore.T d).loc main_arg1))
      (m ((SparseCore.T d).loc main_arg2)) (m ((SparseCore.T d).loc main_arg3)) := by
  funext y
  obtain ⟨b, s, f, rfl⟩ : ∃ (b : Fin 64) (s : Fin 16384) (f : Fin 64), y = ix3 b s f := ⟨y 0, y 1, y 2, eq_ix3 y⟩
  refine Eq.trans ?_ (Cert.ReferenceIdeal.Sum.total_at _ _ _ _ hx b s f).symm
  refine congrArg (fun v : EReal => ((FloatOps.mulf (m ((SparseCore.T d).loc main_arg0) (ix3 b s f)) (Scalar.ofBits .f32 0x3F733333#32) : Ideal .f32) : EReal) + v) ?_
  refine Eq.trans ?_ (tally_mul Finset.univ (fun w : Fin 512 => m (iLoc d) (ix2 b w)) s.val _)
  exact congrArg (fun v : EReal => v * _) (counts_at m d hx b s.val s.isLt)

end Cert.KernelIdeal.Hist
-- ==== Proof.lean ====
/- The proof of the certificate's claims. The kernel — a SparseCore histogram of the slot numbers, then a TensorCore
   blend of the memory with the counts — runs from every launch memory the precondition admits, returns its arguments
   and its semaphores, and computes the reference's result over the extended reals. -/
module

public import proofs.«01_k».proof.Proof.Gen.ReferenceIdeal.Run
public import proofs.«01_k».proof.Defs
public import proofs.«01_k».proof.Proof.Final
public import proofs.«01_k».proof.Proof.IdealFinal
public import proofs.«01_k».proof.Proof.Range
public import proofs.«01_k».proof.Proof.Equation
public import proofs.«01_k».proof.Proof.Gen.ReferenceIdeal
public import proofs.«01_k».proof.Proof.Gen.Pre_in_range
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts Cert.Pre_in_range.Gen.facts

theorem kernel_frame : Cert.quiescent_Kernel := fun m ρ h =>
  (θ_run Cert.Kernel.defs _ _).mono (fun _ e => ⟨fun c => (e.1 c).2, e.2⟩)
    (Cert.Kernel.Hist.run_arrays (F := Bits) m ρ fun d => Cert.Kernel.Hist.allInRange _ (Cert.SlotRange.slot_lt _ _ _ _ (h d)))

theorem ideal_frame : Cert.quiescent_KernelIdeal := fun m ρ h =>
  (θ_run Cert.KernelIdeal.defs _ _).mono (fun _ e => ⟨fun c => (e.1 c).2, e.2⟩)
    (Cert.KernelIdeal.Hist.run_arrays (F := Ideal) m ρ fun d => Cert.KernelIdeal.Hist.allInRange _ (Cert.SlotRange.slot_lt _ _ _ _ (h d)))

theorem reference_frame : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

theorem reference_frame_in_range : Cert.quiescent_ReferenceIdeal_pre_in_range := fun m ρ _ => reference_frame m ρ trivial

theorem kernel_is_reference : Cert.algebraic_KernelIdeal_ReferenceIdeal := fun m ρ m' ρ' h a =>
  have hx : ∀ d y, (show BitVec 32 from m (Cert.KernelIdeal.Hist.iLoc d) y).toNat < 16384 := fun d => Cert.SlotRange.slot_lt _ _ _ _ (h d)
  ⟨fun d => Cert.KernelIdeal.Hist.answer m d,
    (θ_run Cert.KernelIdeal.defs _ _).mono (fun _ e d => ⟨(e.1 d).1.trans (Cert.KernelIdeal.Hist.result_eq m d), (e.1 d).2⟩)
      (Cert.KernelIdeal.Hist.run_arrays (F := Ideal) m ρ fun d => Cert.KernelIdeal.Hist.allInRange _ (hx d)),
    (θ_run Cert.ReferenceIdeal.defs _ _).mono (fun _ e d => ⟨(e d).1.trans (by
        rw [(a d).1, (a d).2.1, (a d).2.2.1, (a d).2.2.2]
        exact (Cert.KernelIdeal.Hist.answer_total m d (hx d)).symm), (e d).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts,
  kernel_frame, ideal_frame, reference_frame, reference_frame_in_range, trivial, kernel_is_reference⟩

end Cert.Proof

end
